-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMeta (m : (ℓ : Loc Cert.KernelMeta.nD Cert.KernelMeta.τ Cert.KernelMeta.sig) → Buf (Elt Bits) ℓ) : Prop :=
  True

def Pre_KernelMetaIdeal (m : (ℓ : Loc Cert.KernelMetaIdeal.nD Cert.KernelMetaIdeal.τ Cert.KernelMetaIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelMeta [hKernelMeta : Cert.KernelMeta.Facts] : Prop :=
  ∀ (m : (ℓ : Loc Cert.KernelMeta.nD Cert.KernelMeta.τ Cert.KernelMeta.sig) → Buf (Elt Bits) ℓ) (g : Dev Cert.KernelMeta.nD → PrngReg), Pre_KernelMeta m →
    θ_run (Cert.KernelMeta.defs (F := Bits)) (onTc (τ := Cert.KernelMeta.τ) (Cert.KernelMeta.main (F := Bits))) ⟨m, fun _ => 0, g⟩ (fun r => (∀ c : Dev Cert.KernelMeta.nD,
      r.2.mem ((c.tc : Thread Cert.KernelMeta.nD Cert.KernelMeta.τ).loc Cert.KernelMeta.main_arg0) = m ((c.tc : Thread Cert.KernelMeta.nD Cert.KernelMeta.τ).loc Cert.KernelMeta.main_arg0)
      ∧ r.2.mem ((c.tc : Thread Cert.KernelMeta.nD Cert.KernelMeta.τ).loc Cert.KernelMeta.main_arg1) = m ((c.tc : Thread Cert.KernelMeta.nD Cert.KernelMeta.τ).loc Cert.KernelMeta.main_arg1)
      ∧ r.2.mem ((c.tc : Thread Cert.KernelMeta.nD Cert.KernelMeta.τ).loc Cert.KernelMeta.main_arg2) = m ((c.tc : Thread Cert.KernelMeta.nD Cert.KernelMeta.τ).loc Cert.KernelMeta.main_arg2)
      ∧ r.2.mem ((c.tc : Thread Cert.KernelMeta.nD Cert.KernelMeta.τ).loc Cert.KernelMeta.main_arg3) = m ((c.tc : Thread Cert.KernelMeta.nD Cert.KernelMeta.τ).loc Cert.KernelMeta.main_arg3)
      ∧ r.2.mem ((c.tc : Thread Cert.KernelMeta.nD Cert.KernelMeta.τ).loc Cert.KernelMeta.main_arg4) = m ((c.tc : Thread Cert.KernelMeta.nD Cert.KernelMeta.τ).loc Cert.KernelMeta.main_arg4)
      ∧ r.2.mem ((c.tc : Thread Cert.KernelMeta.nD Cert.KernelMeta.τ).loc Cert.KernelMeta.main_arg5) = m ((c.tc : Thread Cert.KernelMeta.nD Cert.KernelMeta.τ).loc Cert.KernelMeta.main_arg5)
      ∧ r.2.mem ((c.tc : Thread Cert.KernelMeta.nD Cert.KernelMeta.τ).loc Cert.KernelMeta.main_arg6) = m ((c.tc : Thread Cert.KernelMeta.nD Cert.KernelMeta.τ).loc Cert.KernelMeta.main_arg6)
      ∧ r.2.mem ((c.tc : Thread Cert.KernelMeta.nD Cert.KernelMeta.τ).loc Cert.KernelMeta.main_arg7) = m ((c.tc : Thread Cert.KernelMeta.nD Cert.KernelMeta.τ).loc Cert.KernelMeta.main_arg7)
      ∧ r.2.mem ((c.tc : Thread Cert.KernelMeta.nD Cert.KernelMeta.τ).loc Cert.KernelMeta.main_arg8) = m ((c.tc : Thread Cert.KernelMeta.nD Cert.KernelMeta.τ).loc Cert.KernelMeta.main_arg8)
      ∧ r.2.mem ((c.tc : Thread Cert.KernelMeta.nD Cert.KernelMeta.τ).loc Cert.KernelMeta.main_arg9) = m ((c.tc : Thread Cert.KernelMeta.nD Cert.KernelMeta.τ).loc Cert.KernelMeta.main_arg9)
      ∧ r.2.mem ((c.tc : Thread Cert.KernelMeta.nD Cert.KernelMeta.τ).loc Cert.KernelMeta.main_arg10) = m ((c.tc : Thread Cert.KernelMeta.nD Cert.KernelMeta.τ).loc Cert.KernelMeta.main_arg10)
      ∧ r.2.mem ((c.tc : Thread Cert.KernelMeta.nD Cert.KernelMeta.τ).loc Cert.KernelMeta.main_arg11) = m ((c.tc : Thread Cert.KernelMeta.nD Cert.KernelMeta.τ).loc Cert.KernelMeta.main_arg11)
      ∧ r.2.mem ((c.tc : Thread Cert.KernelMeta.nD Cert.KernelMeta.τ).loc Cert.KernelMeta.main_arg12) = m ((c.tc : Thread Cert.KernelMeta.nD Cert.KernelMeta.τ).loc Cert.KernelMeta.main_arg12)
      ∧ r.2.mem ((c.tc : Thread Cert.KernelMeta.nD Cert.KernelMeta.τ).loc Cert.KernelMeta.main_arg13) = m ((c.tc : Thread Cert.KernelMeta.nD Cert.KernelMeta.τ).loc Cert.KernelMeta.main_arg13)
      ∧ r.2.mem ((c.tc : Thread Cert.KernelMeta.nD Cert.KernelMeta.τ).loc Cert.KernelMeta.main_arg14) = m ((c.tc : Thread Cert.KernelMeta.nD Cert.KernelMeta.τ).loc Cert.KernelMeta.main_arg14))
      ∧ r.2.sem = fun _ => 0)

def quiescent_KernelMetaIdeal [hKernelMetaIdeal : Cert.KernelMetaIdeal.Facts] : Prop :=
  ∀ (m : (ℓ : Loc Cert.KernelMetaIdeal.nD Cert.KernelMetaIdeal.τ Cert.KernelMetaIdeal.sig) → Buf (Elt Ideal) ℓ) (g : Dev Cert.KernelMetaIdeal.nD → PrngReg), Pre_KernelMetaIdeal m →
    θ_run (Cert.KernelMetaIdeal.defs (F := Ideal)) (onTc (τ := Cert.KernelMetaIdeal.τ) (Cert.KernelMetaIdeal.main (F := Ideal))) ⟨m, fun _ => 0, g⟩ (fun r => (∀ c : Dev Cert.KernelMetaIdeal.nD,
      r.2.mem ((c.tc : Thread Cert.KernelMetaIdeal.nD Cert.KernelMetaIdeal.τ).loc Cert.KernelMetaIdeal.main_arg0) = m ((c.tc : Thread Cert.KernelMetaIdeal.nD Cert.KernelMetaIdeal.τ).loc Cert.KernelMetaIdeal.main_arg0)
      ∧ r.2.mem ((c.tc : Thread Cert.KernelMetaIdeal.nD Cert.KernelMetaIdeal.τ).loc Cert.KernelMetaIdeal.main_arg1) = m ((c.tc : Thread Cert.KernelMetaIdeal.nD Cert.KernelMetaIdeal.τ).loc Cert.KernelMetaIdeal.main_arg1)
      ∧ r.2.mem ((c.tc : Thread Cert.KernelMetaIdeal.nD Cert.KernelMetaIdeal.τ).loc Cert.KernelMetaIdeal.main_arg2) = m ((c.tc : Thread Cert.KernelMetaIdeal.nD Cert.KernelMetaIdeal.τ).loc Cert.KernelMetaIdeal.main_arg2)
      ∧ r.2.mem ((c.tc : Thread Cert.KernelMetaIdeal.nD Cert.KernelMetaIdeal.τ).loc Cert.KernelMetaIdeal.main_arg3) = m ((c.tc : Thread Cert.KernelMetaIdeal.nD Cert.KernelMetaIdeal.τ).loc Cert.KernelMetaIdeal.main_arg3)
      ∧ r.2.mem ((c.tc : Thread Cert.KernelMetaIdeal.nD Cert.KernelMetaIdeal.τ).loc Cert.KernelMetaIdeal.main_arg4) = m ((c.tc : Thread Cert.KernelMetaIdeal.nD Cert.KernelMetaIdeal.τ).loc Cert.KernelMetaIdeal.main_arg4)
      ∧ r.2.mem ((c.tc : Thread Cert.KernelMetaIdeal.nD Cert.KernelMetaIdeal.τ).loc Cert.KernelMetaIdeal.main_arg5) = m ((c.tc : Thread Cert.KernelMetaIdeal.nD Cert.KernelMetaIdeal.τ).loc Cert.KernelMetaIdeal.main_arg5)
      ∧ r.2.mem ((c.tc : Thread Cert.KernelMetaIdeal.nD Cert.KernelMetaIdeal.τ).loc Cert.KernelMetaIdeal.main_arg6) = m ((c.tc : Thread Cert.KernelMetaIdeal.nD Cert.KernelMetaIdeal.τ).loc Cert.KernelMetaIdeal.main_arg6)
      ∧ r.2.mem ((c.tc : Thread Cert.KernelMetaIdeal.nD Cert.KernelMetaIdeal.τ).loc Cert.KernelMetaIdeal.main_arg7) = m ((c.tc : Thread Cert.KernelMetaIdeal.nD Cert.KernelMetaIdeal.τ).loc Cert.KernelMetaIdeal.main_arg7)
      ∧ r.2.mem ((c.tc : Thread Cert.KernelMetaIdeal.nD Cert.KernelMetaIdeal.τ).loc Cert.KernelMetaIdeal.main_arg8) = m ((c.tc : Thread Cert.KernelMetaIdeal.nD Cert.KernelMetaIdeal.τ).loc Cert.KernelMetaIdeal.main_arg8)
      ∧ r.2.mem ((c.tc : Thread Cert.KernelMetaIdeal.nD Cert.KernelMetaIdeal.τ).loc Cert.KernelMetaIdeal.main_arg9) = m ((c.tc : Thread Cert.KernelMetaIdeal.nD Cert.KernelMetaIdeal.τ).loc Cert.KernelMetaIdeal.main_arg9)
      ∧ r.2.mem ((c.tc : Thread Cert.KernelMetaIdeal.nD Cert.KernelMetaIdeal.τ).loc Cert.KernelMetaIdeal.main_arg10) = m ((c.tc : Thread Cert.KernelMetaIdeal.nD Cert.KernelMetaIdeal.τ).loc Cert.KernelMetaIdeal.main_arg10)
      ∧ r.2.mem ((c.tc : Thread Cert.KernelMetaIdeal.nD Cert.KernelMetaIdeal.τ).loc Cert.KernelMetaIdeal.main_arg11) = m ((c.tc : Thread Cert.KernelMetaIdeal.nD Cert.KernelMetaIdeal.τ).loc Cert.KernelMetaIdeal.main_arg11)
      ∧ r.2.mem ((c.tc : Thread Cert.KernelMetaIdeal.nD Cert.KernelMetaIdeal.τ).loc Cert.KernelMetaIdeal.main_arg12) = m ((c.tc : Thread Cert.KernelMetaIdeal.nD Cert.KernelMetaIdeal.τ).loc Cert.KernelMetaIdeal.main_arg12)
      ∧ r.2.mem ((c.tc : Thread Cert.KernelMetaIdeal.nD Cert.KernelMetaIdeal.τ).loc Cert.KernelMetaIdeal.main_arg13) = m ((c.tc : Thread Cert.KernelMetaIdeal.nD Cert.KernelMetaIdeal.τ).loc Cert.KernelMetaIdeal.main_arg13)
      ∧ r.2.mem ((c.tc : Thread Cert.KernelMetaIdeal.nD Cert.KernelMetaIdeal.τ).loc Cert.KernelMetaIdeal.main_arg14) = m ((c.tc : Thread Cert.KernelMetaIdeal.nD Cert.KernelMetaIdeal.τ).loc Cert.KernelMetaIdeal.main_arg14))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v13_0)) (v1 : (c : Dev Cert.KernelInIdeal.nD) → Buf (Elt Ideal) ((c.tc : Thread Cert.KernelInIdeal.nD Cert.KernelInIdeal.τ).loc Cert.KernelInIdeal.main_v13_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v13_0) = v0 c
          ∧ r.2.mem ((c.tc : Thread Cert.KernelInIdeal.nD Cert.KernelInIdeal.τ).loc Cert.KernelInIdeal.main_v13_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v33) = v0 c
          ∧ r.2.mem ((c.tc : Thread Cert.ReferenceInIdeal.nD Cert.ReferenceInIdeal.τ).loc Cert.ReferenceInIdeal.main_v35) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelMeta_KernelMetaIdeal : Prop :=
  True

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v6)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v23) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def Claim : Prop :=
  ∃ (hKernelIn : Cert.KernelIn.Facts) (hKernelInIdeal : Cert.KernelInIdeal.Facts) (hReferenceInIdeal : Cert.ReferenceInIdeal.Facts) (hKernelMeta : Cert.KernelMeta.Facts) (hKernelMetaIdeal : Cert.KernelMetaIdeal.Facts) (hKernelOut : Cert.KernelOut.Facts) (hKernelOutIdeal : Cert.KernelOutIdeal.Facts) (hReferenceOutIdeal : Cert.ReferenceOutIdeal.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelMeta (hKernelMeta := hKernelMeta)
    ∧ quiescent_KernelMetaIdeal (hKernelMetaIdeal := hKernelMetaIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelMeta_KernelMetaIdeal
    ∧ preserves_KernelOut_KernelOutIdeal
    ∧ algebraic_KernelOutIdeal_ReferenceOutIdeal (hKernelOutIdeal := hKernelOutIdeal) (hReferenceOutIdeal := hReferenceOutIdeal)
-- ==== KernelIn.lean ====
abbrev S4x4096x2048 : Shape := ⟨3, ![4, 4096, 2048]⟩
abbrev S16x2048 : Shape := ⟨2, ![16, 2048]⟩
abbrev S1x2048 : Shape := ⟨2, ![1, 2048]⟩
abbrev S1x2048x8336 : Shape := ⟨3, ![1, 2048, 8336]⟩
abbrev S2048x8336 : Shape := ⟨2, ![2048, 8336]⟩
abbrev S8336x2048 : Shape := ⟨2, ![8336, 2048]⟩
abbrev S384x2048 : Shape := ⟨2, ![384, 2048]⟩
abbrev S1024x2048 : Shape := ⟨2, ![1024, 2048]⟩
abbrev S_ : Shape := ⟨0, ![]⟩
abbrev S112x2048 : Shape := ⟨2, ![112, 2048]⟩
abbrev S1536x2048 : Shape := ⟨2, ![1536, 2048]⟩
abbrev S2048 : Shape := ⟨1, ![2048]⟩
abbrev S48x2048 : Shape := ⟨2, ![48, 2048]⟩
abbrev S64x2048 : Shape := ⟨2, ![64, 2048]⟩
abbrev S16384x2048 : Shape := ⟨2, ![16384, 2048]⟩
abbrev S66x16384x128 : Shape := ⟨3, ![66, 16384, 128]⟩
abbrev S66x64x128 : Shape := ⟨3, ![66, 64, 128]⟩
abbrev S768x2048 : Shape := ⟨2, ![768, 2048]⟩
abbrev S6x1024x128 : Shape := ⟨3, ![6, 1024, 128]⟩
abbrev S6x64x128 : Shape := ⟨3, ![6, 64, 128]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S1024x768 : Shape := ⟨2, ![1024, 768]⟩
abbrev S1024x128 : Shape := ⟨2, ![1024, 128]⟩
abbrev S1x1024x128 : Shape := ⟨3, ![1, 1024, 128]⟩
abbrev S64x768 : Shape := ⟨2, ![64, 768]⟩
abbrev S64x128 : Shape := ⟨2, ![64, 128]⟩
abbrev S1x64x128 : Shape := ⟨3, ![1, 64, 128]⟩

abbrev nBuf : Space → Nat
  | .hbm => 21
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S1x2048, .f32⟩
  | .hbm, ⟨3, _⟩ => ⟨S1x2048x8336, .f32⟩
  | .hbm, ⟨4, _⟩ => ⟨S2048x8336, .f32⟩
  | .hbm, ⟨5, _⟩ => ⟨S8336x2048, .f32⟩
  | .hbm, ⟨6, _⟩ => ⟨S8336x2048, .bf16⟩
  | .hbm, ⟨7, _⟩ => ⟨S384x2048, .bf16⟩
  | .hbm, ⟨8, _⟩ => ⟨S1024x2048, .bf16⟩
  | .hbm, ⟨9, _⟩ => ⟨S16x2048, .bf16⟩
  | .hbm, ⟨10, _⟩ => ⟨S_, .bf16⟩
  | .hbm, ⟨11, _⟩ => ⟨S112x2048, .bf16⟩
  | .hbm, ⟨12, _⟩ => ⟨S1536x2048, .bf16⟩
  | .hbm, ⟨13, _⟩ => ⟨S2048, .f32⟩
  | .hbm, ⟨14, _⟩ => ⟨S1x2048, .f32⟩
  | .hbm, ⟨15, _⟩ => ⟨S_, .f32⟩
  | .hbm, ⟨16, _⟩ => ⟨S48x2048, .f32⟩
  | .hbm, ⟨17, _⟩ => ⟨S64x2048, .f32⟩
  | .hbm, ⟨18, _⟩ => ⟨S16384x2048, .f32⟩
  | .hbm, ⟨19, _⟩ => ⟨S66x16384x128, .f32⟩
  | .hbm, ⟨20, _⟩ => ⟨S66x64x128, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x2048, .f32⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S768x2048, .bf16⟩
  | .local _ .vmem, ⟨8, _⟩ => ⟨S6x1024x128, .f32⟩
  | .local _ .vmem, ⟨9, _⟩ => ⟨S6x1024x128, .f32⟩
  | .local _ .vmem, ⟨10, _⟩ => ⟨S6x64x128, .f32⟩
  | .local _ .vmem, ⟨11, _⟩ => ⟨S6x64x128, .f32⟩
  | .local _ .vmem, ⟨12, _⟩ => ⟨S1024x2048, .bf16⟩
  | .local _ .vmem, ⟨13, _⟩ => ⟨S64x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c9_i32 : BitVec 32 := 9#32
  let v8 : BitVec 1 := Scalar.cmpi .slt arg1 c9_i32
  let v9 : BitVec 32 := Scalar.extui v8
  let c0_i32_4 : BitVec 32 := 0#32
  let v10 : BitVec 1 := Scalar.cmpi .ne v9 c0_i32_4
  v10

def k0_cond5 (i : grid0.Coords) : BitVec 1 :=
  let arg1 : BitVec 32 := BitVec.ofNat 32 (i 1).val
  let c9_i32_5 : BitVec 32 := 9#32
  let v11 : BitVec 1 := Scalar.cmpi .sge arg1 c9_i32_5
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_23 : BitVec 32 := 0#32
  let v42 : BitVec 1 := Scalar.cmpi .eq arg0 c0_i32_23
  let v43 : BitVec 32 := Scalar.extui v42
  let c0_i32_24 : BitVec 32 := 0#32
  let v44 : BitVec 1 := Scalar.cmpi .ne v43 c0_i32_24
  v44

def k0_cond6 (i : grid0.Coords) : BitVec 1 :=
  let arg0 : BitVec 32 := BitVec.ofNat 32 (i 0).val
  let c0_i32_23 : BitVec 32 := 0#32
  let v42 : BitVec 1 := Scalar.cmpi .eq arg0 c0_i32_23
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S6x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S6x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceInIdeal.lean ====
abbrev S4x4096x2048 : Shape := ⟨3, ![4, 4096, 2048]⟩
abbrev S16x2048 : Shape := ⟨2, ![16, 2048]⟩
abbrev S1x2048 : Shape := ⟨2, ![1, 2048]⟩
abbrev S1x2048x8336 : Shape := ⟨3, ![1, 2048, 8336]⟩
abbrev S1x16x2048 : Shape := ⟨3, ![1, 16, 2048]⟩
abbrev S4x16x2048 : Shape := ⟨3, ![4, 16, 2048]⟩
abbrev S4x4112x2048 : Shape := ⟨3, ![4, 4112, 2048]⟩
abbrev S2048 : Shape := ⟨1, ![2048]⟩
abbrev S_ : Shape := ⟨0, ![]⟩
abbrev S4x4112 : Shape := ⟨2, ![4, 4112]⟩
abbrev S4x4112x1 : Shape := ⟨3, ![4, 4112, 1]⟩
abbrev S1x1x2048 : Shape := ⟨3, ![1, 1, 2048]⟩
abbrev S2048x8336 : Shape := ⟨2, ![2048, 8336]⟩
abbrev S4x4112x8336 : Shape := ⟨3, ![4, 4112, 8336]⟩
abbrev S4x4112x3200 : Shape := ⟨3, ![4, 4112, 3200]⟩
abbrev S4x4112x1024 : Shape := ⟨3, ![4, 4112, 1024]⟩
abbrev S4x4112x3072 : Shape := ⟨3, ![4, 4112, 3072]⟩
abbrev S4x4112x8 : Shape := ⟨3, ![4, 4112, 8]⟩
abbrev S4x4112x112 : Shape := ⟨3, ![4, 4112, 112]⟩
abbrev S4x4112x8448 : Shape := ⟨3, ![4, 4112, 8448]⟩
abbrev S48x8448 : Shape := ⟨2, ![48, 8448]⟩
abbrev S1x16x8448 : Shape := ⟨3, ![1, 16, 8448]⟩
abbrev S16x8448 : Shape := ⟨2, ![16, 8448]⟩
abbrev S64x8448 : Shape := ⟨2, ![64, 8448]⟩
abbrev S4x4096x8448 : Shape := ⟨3, ![4, 4096, 8448]⟩
abbrev S16384x66x128 : Shape := ⟨3, ![16384, 66, 128]⟩
abbrev S66x16384x128 : Shape := ⟨3, ![66, 16384, 128]⟩
abbrev S64x66x128 : Shape := ⟨3, ![64, 66, 128]⟩
abbrev S66x64x128 : Shape := ⟨3, ![66, 64, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S1x2048, .f32⟩
  | .hbm, ⟨3, _⟩ => ⟨S1x2048x8336, .f32⟩
  | .hbm, ⟨4, _⟩ => ⟨S1x16x2048, .f32⟩
  | .hbm, ⟨5, _⟩ => ⟨S4x16x2048, .f32⟩
  | .hbm, ⟨6, _⟩ => ⟨S4x4112x2048, .f32⟩
  | .hbm, ⟨7, _⟩ => ⟨S2048, .f32⟩
  | .hbm, ⟨8, _⟩ => ⟨S4x4112x2048, .f32⟩
  | .hbm, ⟨9, _⟩ => ⟨S_, .f32⟩
  | .hbm, ⟨10, _⟩ => ⟨S4x4112, .f32⟩
  | .hbm, ⟨11, _⟩ => ⟨S4x4112x1, .f32⟩
  | .hbm, ⟨12, _⟩ => ⟨S_, .f32⟩
  | .hbm, ⟨13, _⟩ => ⟨S4x4112x1, .f32⟩
  | .hbm, ⟨14, _⟩ => ⟨S4x4112x1, .f32⟩
  | .hbm, ⟨15, _⟩ => ⟨S_, .f32⟩
  | .hbm, ⟨16, _⟩ => ⟨S4x4112x1, .f32⟩
  | .hbm, ⟨17, _⟩ => ⟨S4x4112x1, .f32⟩
  | .hbm, ⟨18, _⟩ => ⟨S4x4112x1, .f32⟩
  | .hbm, ⟨19, _⟩ => ⟨S4x4112x2048, .f32⟩
  | .hbm, ⟨20, _⟩ => ⟨S4x4112x2048, .f32⟩
  | .hbm, ⟨21, _⟩ => ⟨S1x1x2048, .f32⟩
  | .hbm, ⟨22, _⟩ => ⟨S4x4112x2048, .f32⟩
  | .hbm, ⟨23, _⟩ => ⟨S4x4112x2048, .f32⟩
  | .hbm, ⟨24, _⟩ => ⟨S2048x8336, .f32⟩
  | .hbm, ⟨25, _⟩ => ⟨S4x4112x8336, .f32⟩
  | .hbm, ⟨26, _⟩ => ⟨S4x4112x3200, .f32⟩
  | .hbm, ⟨27, _⟩ => ⟨S4x4112x1024, .f32⟩
  | .hbm, ⟨28, _⟩ => ⟨S4x4112x3072, .f32⟩
  | .hbm, ⟨29, _⟩ => ⟨S4x4112x8, .f32⟩
  | .hbm, ⟨30, _⟩ => ⟨S4x4112x8, .f32⟩
  | .hbm, ⟨31, _⟩ => ⟨S4x4112x1024, .f32⟩
  | .hbm, ⟨32, _⟩ => ⟨S_, .f32⟩
  | .hbm, ⟨33, _⟩ => ⟨S4x4112x112, .f32⟩
  | .hbm, ⟨34, _⟩ => ⟨S4x4112x8448, .f32⟩
  | .hbm, ⟨35, _⟩ => ⟨S_, .f32⟩
  | .hbm, ⟨36, _⟩ => ⟨S48x8448, .f32⟩
  | .hbm, ⟨37, _⟩ => ⟨S1x16x8448, .f32⟩
  | .hbm, ⟨38, _⟩ => ⟨S16x8448, .f32⟩
  | .hbm, ⟨39, _⟩ => ⟨S64x8448, .f32⟩
  | .hbm, ⟨40, _⟩ => ⟨S4x4096x8448, .f32⟩
  | .hbm, ⟨41, _⟩ => ⟨S16384x66x128, .f32⟩
  | .hbm, ⟨42, _⟩ => ⟨S66x16384x128, .f32⟩
  | .hbm, ⟨43, _⟩ => ⟨S64x66x128, .f32⟩
  | .hbm, ⟨44, _⟩ => ⟨S66x64x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== KernelMeta.lean ====
abbrev S66x64x128 : Shape := ⟨3, ![66, 64, 128]⟩
abbrev S1x3200 : Shape := ⟨2, ![1, 3200]⟩
abbrev S1x1024 : Shape := ⟨2, ![1, 1024]⟩
abbrev S1x64x1024 : Shape := ⟨3, ![1, 64, 1024]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩
abbrev S64x1024 : Shape := ⟨2, ![64, 1024]⟩
abbrev S3200 : Shape := ⟨1, ![3200]⟩
abbrev S25x1x128 : Shape := ⟨3, ![25, 1, 128]⟩
abbrev S1024 : Shape := ⟨1, ![1024]⟩
abbrev S8x1x128 : Shape := ⟨3, ![8, 1, 128]⟩
abbrev S64x2048 : Shape := ⟨2, ![64, 2048]⟩
abbrev S128x2048 : Shape := ⟨2, ![128, 2048]⟩
abbrev S4x3072 : Shape := ⟨2, ![4, 3072]⟩
abbrev S4x24x1x128 : Shape := ⟨4, ![4, 24, 1, 128]⟩
abbrev S8 : Shape := ⟨1, ![8]⟩
abbrev S1 : Shape := ⟨1, ![1]⟩
abbrev S2 : Shape := ⟨1, ![2]⟩
abbrev S128 : Shape := ⟨1, ![128]⟩
abbrev S66x1x64x128 : Shape := ⟨4, ![66, 1, 64, 128]⟩
abbrev S25x8x128 : Shape := ⟨3, ![25, 8, 128]⟩
abbrev S8x128x128 : Shape := ⟨3, ![8, 128, 128]⟩
abbrev S24x8x128 : Shape := ⟨3, ![24, 8, 128]⟩
abbrev S8x1x64x128 : Shape := ⟨4, ![8, 1, 64, 128]⟩
abbrev S1x8x128x128 : Shape := ⟨4, ![1, 8, 128, 128]⟩
abbrev S1x25x72x128 : Shape := ⟨4, ![1, 25, 72, 128]⟩
abbrev S1x24x72x128 : Shape := ⟨4, ![1, 24, 72, 128]⟩
abbrev S1x25x8x128 : Shape := ⟨4, ![1, 25, 8, 128]⟩
abbrev S1x24x8x128 : Shape := ⟨4, ![1, 24, 8, 128]⟩
abbrev S64x128 : Shape := ⟨2, ![64, 128]⟩
abbrev S64x64 : Shape := ⟨2, ![64, 64]⟩
abbrev S33x1x64x128 : Shape := ⟨4, ![33, 1, 64, 128]⟩
abbrev S1x1x64x128 : Shape := ⟨4, ![1, 1, 64, 128]⟩
abbrev S128x128 : Shape := ⟨2, ![128, 128]⟩
abbrev S1x1x1x128 : Shape := ⟨4, ![1, 1, 1, 128]⟩
abbrev S64 : Shape := ⟨1, ![64]⟩
abbrev S64x1 : Shape := ⟨2, ![64, 1]⟩
abbrev S1x1 : Shape := ⟨2, ![1, 1]⟩
abbrev S64x256 : Shape := ⟨2, ![64, 256]⟩
abbrev S128x256 : Shape := ⟨2, ![128, 256]⟩
abbrev S1x1x128 : Shape := ⟨3, ![1, 1, 128]⟩
abbrev S256x128 : Shape := ⟨2, ![256, 128]⟩
abbrev S64x512 : Shape := ⟨2, ![64, 512]⟩
abbrev S128x512 : Shape := ⟨2, ![128, 512]⟩
abbrev S1x1x128x128 : Shape := ⟨4, ![1, 1, 128, 128]⟩
abbrev S25x1x8x128 : Shape := ⟨4, ![25, 1, 8, 128]⟩
abbrev S24x1x8x128 : Shape := ⟨4, ![24, 1, 8, 128]⟩

abbrev nBuf : Space → Nat
  | .hbm => 76
  | .vmem => 28
  | .smem => 0
  | _ => 0

abbrev bufTy : (tb : Table) → Fin (tcTables nBuf tb) → BufTy
  | .hbm, ⟨0, _⟩ => ⟨S66x64x128, .f32⟩
  | .hbm, ⟨1, _⟩ => ⟨S1x3200, .f32⟩
  | .hbm, ⟨2, _⟩ => ⟨S1x1024, .f32⟩
  | .hbm, ⟨3, _⟩ => ⟨S1x64x1024, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x4x3072, .f32⟩
  | .hbm, ⟨12, _⟩ => ⟨S1x8, .f32⟩
  | .hbm, ⟨13, _⟩ => ⟨S1x8, .f32⟩
  | .hbm, ⟨14, _⟩ => ⟨S1x128, .f32⟩
  | .hbm, ⟨15, _⟩ => ⟨S_, .f32⟩
  | .hbm, ⟨16, _⟩ => ⟨S64x1024, .f32⟩
  | .hbm, ⟨17, _⟩ => ⟨S3200, .f32⟩
  | .hbm, ⟨18, _⟩ => ⟨S25x1x128, .f32⟩
  | .hbm, ⟨19, _⟩ => ⟨S1024, .f32⟩
  | .hbm, ⟨20, _⟩ => ⟨S8x1x128, .f32⟩
  | .hbm, ⟨21, _⟩ => ⟨S1024, .f32⟩
  | .hbm, ⟨22, _⟩ => ⟨S8x1x128, .f32⟩
  | .hbm, ⟨23, _⟩ => ⟨S1024, .f32⟩
  | .hbm, ⟨24, _⟩ => ⟨S8x1x128, .f32⟩
  | .hbm, ⟨25, _⟩ => ⟨S1024, .f32⟩
  | .hbm, ⟨26, _⟩ => ⟨S8x1x128, .f32⟩
  | .hbm, ⟨27, _⟩ => ⟨S1024, .f32⟩
  | .hbm, ⟨28, _⟩ => ⟨S8x1x128, .f32⟩
  | .hbm, ⟨29, _⟩ => ⟨S1024, .f32⟩
  | .hbm, ⟨30, _⟩ => ⟨S8x1x128, .f32⟩
  | .hbm, ⟨31, _⟩ => ⟨S1024, .f32⟩
  | .hbm, ⟨32, _⟩ => ⟨S8x1x128, .f32⟩
  | .hbm, ⟨33, _⟩ => ⟨S64x1024, .f32⟩
  | .hbm, ⟨34, _⟩ => ⟨S64x2048, .f32⟩
  | .hbm, ⟨35, _⟩ => ⟨S64x1024, .f32⟩
  | .hbm, ⟨36, _⟩ => ⟨S64x2048, .f32⟩
  | .hbm, ⟨37, _⟩ => ⟨S128x2048, .f32⟩
  | .hbm, ⟨38, _⟩ => ⟨S128x2048, .bf16⟩
  | .hbm, ⟨39, _⟩ => ⟨S4x3072, .f32⟩
  | .hbm, ⟨40, _⟩ => ⟨S4x24x1x128, .f32⟩
  | .hbm, ⟨41, _⟩ => ⟨S8, .f32⟩
  | .hbm, ⟨42, _⟩ => ⟨S_, .f32⟩
  | .hbm, ⟨43, _⟩ => ⟨S1x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S1x128, .f32⟩
  | .hbm, ⟨50, _⟩ => ⟨S8, .f32⟩
  | .hbm, ⟨51, _⟩ => ⟨S_, .f32⟩
  | .hbm, ⟨52, _⟩ => ⟨S1x128, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S66x1x64x128, .f32⟩
  | .hbm, ⟨62, _⟩ => ⟨S_, .f32⟩
  | .hbm, ⟨63, _⟩ => ⟨S25x8x128, .f32⟩
  | .hbm, ⟨64, _⟩ => ⟨S_, .f32⟩
  | .hbm, ⟨65, _⟩ => ⟨S8x128x128, .f32⟩
  | .hbm, ⟨66, _⟩ => ⟨S_, .f32⟩
  | .hbm, ⟨67, _⟩ => ⟨S24x8x128, .f32⟩
  | .hbm, ⟨68, _⟩ => ⟨S_, .f32⟩
  | .hbm, ⟨69, _⟩ => ⟨S8x128x128, .f32⟩
  | .hbm, ⟨70, _⟩ => ⟨S8x1x64x128, .bf16⟩
  | .hbm, ⟨71, _⟩ => ⟨S8x1x64x128, .bf16⟩
  | .hbm, ⟨72, _⟩ => ⟨S25x8x128, .f32⟩
  | .hbm, ⟨73, _⟩ => ⟨S8x128x128, .f32⟩
  | .hbm, ⟨74, _⟩ => ⟨S24x8x128, .f32⟩
  | .hbm, ⟨75, _⟩ => ⟨S8x128x128, .f32⟩
  | .local _ .vmem, ⟨0, _⟩ => ⟨S66x1x64x128, .f32⟩
  | .local _ .vmem, ⟨1, _⟩ => ⟨S25x1x128, .f32⟩
  | .local _ .vmem, ⟨2, _⟩ => ⟨S8x1x128, .f32⟩
  | .local _ .vmem, ⟨3, _⟩ => ⟨S8x1x128, .f32⟩
  | .local _ .vmem, ⟨4, _⟩ => ⟨S8x1x128, .f32⟩
  | .local _ .vmem, ⟨5, _⟩ => ⟨S8x1x128, .f32⟩
  | .local _ .vmem, ⟨6, _⟩ => ⟨S8x1x128, .f32⟩
  | .local _ .vmem, ⟨7, _⟩ => ⟨S8x1x128, .f32⟩
  | .local _ .vmem, ⟨8, _⟩ => ⟨S8x1x128, .f32⟩
  | .local _ .vmem, ⟨9, _⟩ => ⟨S128x2048, .bf16⟩
  | .local _ .vmem, ⟨10, _⟩ => ⟨S4x24x1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S25x8x128, .f32⟩
  | .local _ .vmem, ⟨15, _⟩ => ⟨S8x128x128, .f32⟩
  | .local _ .vmem, ⟨16, _⟩ => ⟨S24x8x128, .f32⟩
  | .local _ .vmem, ⟨17, _⟩ => ⟨S8x128x128, .f32⟩
  | .local _ .vmem, ⟨18, _⟩ => ⟨S8x1x64x128, .bf16⟩
  | .local _ .vmem, ⟨19, _⟩ => ⟨S8x1x64x128, .bf16⟩
  | .local _ .vmem, ⟨20, _⟩ => ⟨S25x8x128, .f32⟩
  | .local _ .vmem, ⟨21, _⟩ => ⟨S8x128x128, .f32⟩
  | .local _ .vmem, ⟨22, _⟩ => ⟨S24x8x128, .f32⟩
  | .local _ .vmem, ⟨23, _⟩ => ⟨S8x128x128, .f32⟩
  | .local _ .vmem, ⟨24, _⟩ => ⟨S1x8x128x128, .f32⟩
  | .local _ .vmem, ⟨25, _⟩ => ⟨S1x25x72x128, .f32⟩
  | .local _ .vmem, ⟨26, _⟩ => ⟨S1x8x128x128, .f32⟩
  | .local _ .vmem, ⟨27, _⟩ => ⟨S1x24x72x128, .f32⟩
  | _, _ => ⟨S66x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_v44_2 : Ref sig .tc := ⟨.hbm, 72, rfl⟩
abbrev main_v44_3 : Ref sig .tc := ⟨.hbm, 73, rfl⟩
abbrev main_v44_4 : Ref sig .tc := ⟨.hbm, 74, rfl⟩
abbrev main_v44_5 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_2712 : BitVec 32 := 0#32
  let v5195 : BitVec 1 := Scalar.cmpi .eq arg1 c0_i32_2712
  let v5196 : BitVec 32 := Scalar.extui v5195
  let c0_i32_2713 : BitVec 32 := 0#32
  let v5197 : BitVec 1 := Scalar.cmpi .ne v5196 c0_i32_2713
  v5197

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S66x1x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S25x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x24x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S25x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S24x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x1x64x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S8x1x64x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S25x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S24x8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]
-- ==== KernelOut.lean ====
abbrev S8x4x4096x128 : Shape := ⟨4, ![8, 4, 4096, 128]⟩
abbrev S4x4096x2048 : Shape := ⟨3, ![4, 4096, 2048]⟩
abbrev S1x2048x2048 : Shape := ⟨3, ![1, 2048, 2048]⟩
abbrev S2048 : Shape := ⟨1, ![2048]⟩
abbrev S16384x2048 : Shape := ⟨2, ![16384, 2048]⟩
abbrev S8x16384x128 : Shape := ⟨3, ![8, 16384, 128]⟩
abbrev S2048x2048 : Shape := ⟨2, ![2048, 2048]⟩
abbrev S1x2048 : Shape := ⟨2, ![1, 2048]⟩
abbrev S8x512x128 : Shape := ⟨3, ![8, 512, 128]⟩
abbrev S512x2048 : Shape := ⟨2, ![512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S4x4096x2048, .f32⟩
  | .hbm, ⟨3, _⟩ => ⟨S1x2048x2048, .f32⟩
  | .hbm, ⟨4, _⟩ => ⟨S2048, .f32⟩
  | .hbm, ⟨5, _⟩ => ⟨S16384x2048, .f32⟩
  | .hbm, ⟨6, _⟩ => ⟨S8x16384x128, .bf16⟩
  | .hbm, ⟨7, _⟩ => ⟨S8x16384x128, .bf16⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S16384x2048, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S8x4x4096x128 : Shape := ⟨4, ![8, 4, 4096, 128]⟩
abbrev S4x4096x2048 : Shape := ⟨3, ![4, 4096, 2048]⟩
abbrev S1x2048x2048 : Shape := ⟨3, ![1, 2048, 2048]⟩
abbrev S2048 : Shape := ⟨1, ![2048]⟩
abbrev S4x4096x8x128 : Shape := ⟨4, ![4, 4096, 8, 128]⟩
abbrev S4x4096x1024 : Shape := ⟨3, ![4, 4096, 1024]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S4x4096x2048, .f32⟩
  | .hbm, ⟨3, _⟩ => ⟨S1x2048x2048, .f32⟩
  | .hbm, ⟨4, _⟩ => ⟨S2048, .f32⟩
  | .hbm, ⟨5, _⟩ => ⟨S8x4x4096x128, .f32⟩
  | .hbm, ⟨6, _⟩ => ⟨S4x4096x8x128, .f32⟩
  | .hbm, ⟨7, _⟩ => ⟨S4x4096x1024, .f32⟩
  | .hbm, ⟨8, _⟩ => ⟨S8x4x4096x128, .f32⟩
  | .hbm, ⟨9, _⟩ => ⟨S4x4096x8x128, .f32⟩
  | .hbm, ⟨10, _⟩ => ⟨S4x4096x1024, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S16384x2048, .f32⟩
  | _, _ => ⟨S8x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.InConds.lean ====
/- The input projection's grid: which branches the body takes at a point, and the buffers it is called on.
   Point `t` is row block `t / 11` and column block `t % 11`. -/
module

public import proofs.«01_k».proof.Proof.Gen.KernelInIdeal.Frame
public import proofs.«01_k».proof.Proof.Gen.KernelInIdeal.Launch
public import proofs.«01_k».proof.Proof.Gen.KernelInIdeal.Skeleton
public import proofs.«01_k».proof.Proof.Gen.KernelInIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The body's first branch: the row block is normalised when its first column block is reached. -/
abbrev rowStarts (i : grid0.Coords) : Prop :=
  Scalar.cmpi .ne (Scalar.extui (Scalar.cmpi .eq (BitVec.ofNat 32 (i 1).val) 0#32)) 0#32 = 1#1

/-- The second: the meta rows are normalised once, at the first point. -/
abbrev gridStarts (i : grid0.Coords) : Prop :=
  Scalar.cmpi .ne (Scalar.extui (Scalar.andi (Scalar.cmpi .eq (BitVec.ofNat 32 (i 1).val) 0#32)
    (Scalar.cmpi .eq (BitVec.ofNat 32 (i 0).val) 0#32))) 0#32 = 1#1

/-- The other four: a column block of the first weight, the meta rows with it, a column block of the second, the meta rows
    with it. -/
abbrev leftCols (i : grid0.Coords) : Prop := k0_cond3 i = 1#1
abbrev leftMeta (i : grid0.Coords) : Prop := k0_cond4 i = 1#1
abbrev rightCols (i : grid0.Coords) : Prop := k0_cond5 i = 1#1
abbrev rightMeta (i : grid0.Coords) : Prop := k0_cond6 i = 1#1

/-- Each branch's condition over the point's number. -/
theorem branches : ∀ t : Fin cfg0.N, (rowStarts (grid0.coords t) ↔ t.val % 11 = 0) ∧ (gridStarts (grid0.coords t) ↔ t.val = 0)
    ∧ (leftCols (grid0.coords t) ↔ t.val % 11 < 9) ∧ (leftMeta (grid0.coords t) ↔ t.val < 11)
    ∧ (rightCols (grid0.coords t) ↔ ¬t.val % 11 < 9) ∧ (rightMeta (grid0.coords t) ↔ t.val < 11) :=
  (by decide +kernel : ∀ t : Fin grid0.N, _)

/-- The main output is written at every point; the meta rows' only in the first row of points. -/
theorem idles : ∀ t : Fin cfg0.N, cfg0.idle 5 (grid0.coords t) = false ∧ cfg0.idle 6 (grid0.coords t) = decide (11 ≤ t.val) :=
  (by decide +kernel : ∀ t : Fin grid0.N, _)

/-- Nothing of the meta rows' output is held before a point of the first row; afterwards its last block is. -/
theorem fresh6 : ∀ t : Fin cfg0.N, cfg0.fresh 6 t.val = decide (t.val < 11) :=
  (by decide +kernel : ∀ t : Fin grid0.N, _)

/-- The buffers the body is called on at point `t`, and that each is a whole buffer. -/
abbrev bx (t : Fin cfg0.N) : Memref sig .tc .vmem S1024x2048 .f32 := win0_0.stage (cfg0.slots t 0)
abbrev bxm (t : Fin cfg0.N) : Memref sig .tc .vmem S64x2048 .f32 := win0_1.stage (cfg0.slots t 1)
abbrev bg (t : Fin cfg0.N) : Memref sig .tc .vmem S1x2048 .f32 := win0_2.stage (cfg0.slots t 2)
abbrev bl (t : Fin cfg0.N) : Memref sig .tc .vmem S768x2048 .bf16 := win0_3.stage (cfg0.slots t 3)
abbrev br (t : Fin cfg0.N) : Memref sig .tc .vmem S768x2048 .bf16 := win0_4.stage (cfg0.slots t 4)
abbrev bo (t : Fin cfg0.N) : Memref sig .tc .vmem S6x1024x128 .f32 := win0_5.stage (cfg0.slots t 5)
abbrev bom (t : Fin cfg0.N) : Memref sig .tc .vmem S6x64x128 .f32 := win0_6.stage (cfg0.slots t 6)
abbrev su : Memref sig .tc .vmem S1024x2048 .bf16 := Memref.whole cc0_scratch0
abbrev sm : Memref sig .tc .vmem S64x2048 .bf16 := Memref.whole cc0_scratch1

variable {F : FTy → Type} [FloatOps F]

local notation "𝕄" => MT nD τ sig Unit (Elt F) ℕ (UR sig nD τ) ℕ

/-- What the launch hands the pipeline beside the windows: the two scratch buffers at anything and the generator register. -/
theorem rest_eq (c : Dev nD) : (Pipeline.ΦA spec0 c : sProp 𝕄)
      = iprop(iprop((∃ d, owns (c : Thread nD τ) su fullShare d) ∗ (∃ d, owns (c : Thread nD τ) sm fullShare d)) ∗ (∃ r, prngReg c r)) := by
  unfold Pipeline.ΦA; rw [scopedRest0_eq]; simp only [su, sm, owns_whole]; try rfl

end Cert.KernelInIdeal.Meaning

end
-- ==== Proof.InSlabs.lean ====
/- The input projection's body at one point, whatever branches it takes: from what the inputs and the scratch hold to what it
   leaves in the outputs and the scratch. -/
module

public import proofs.«01_k».proof.Proof.InConds
public import Idealize.ShloMosaic.Lib.VecWindow

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The six stores of the main output's block, last first: the six slabs of 128 columns of the normalised rows `u` times the
    768 rows `w` of the weight. -/
def slabs (u : Vec F S1024x2048 .bf16) (w : Vec F S768x2048 .bf16) : List (View.Piece (Elt F) S6x1024x128 .f32) :=
  [⟨Rect.unit ![5, 0, 0] S1x1024x128.size inb_S6x1024x128_S1x1024x128_5_0_0, k0_pay23 u w⟩,
   ⟨Rect.unit ![4, 0, 0] S1x1024x128.size inb_S6x1024x128_S1x1024x128_4_0_0, k0_pay22 u w⟩,
   ⟨Rect.unit ![3, 0, 0] S1x1024x128.size inb_S6x1024x128_S1x1024x128_3_0_0, k0_pay21 u w⟩,
   ⟨Rect.unit ![2, 0, 0] S1x1024x128.size inb_S6x1024x128_S1x1024x128_2_0_0, k0_pay20 u w⟩,
   ⟨Rect.unit ![1, 0, 0] S1x1024x128.size inb_S6x1024x128_S1x1024x128_1_0_0, k0_pay19 u w⟩,
   ⟨Rect.unit ![0, 0, 0] S1x1024x128.size inb_S6x1024x128_S1x1024x128_0_0_0, k0_pay18 u w⟩]

/-- The same for the 64 normalised meta rows `um`. -/
def metaSlabs (um : Vec F S64x2048 .bf16) (w : Vec F S768x2048 .bf16) : List (View.Piece (Elt F) S6x64x128 .f32) :=
  [⟨Rect.unit ![5, 0, 0] S1x64x128.size inb_S6x64x128_S1x64x128_5_0_0, k0_pay9 um w⟩,
   ⟨Rect.unit ![4, 0, 0] S1x64x128.size inb_S6x64x128_S1x64x128_4_0_0, k0_pay8 um w⟩,
   ⟨Rect.unit ![3, 0, 0] S1x64x128.size inb_S6x64x128_S1x64x128_3_0_0, k0_pay7 um w⟩,
   ⟨Rect.unit ![2, 0, 0] S1x64x128.size inb_S6x64x128_S1x64x128_2_0_0, k0_pay6 um w⟩,
   ⟨Rect.unit ![1, 0, 0] S1x64x128.size inb_S6x64x128_S1x64x128_1_0_0, k0_pay5 um w⟩,
   ⟨Rect.unit ![0, 0, 0] S1x64x128.size inb_S6x64x128_S1x64x128_0_0_0, k0_pay4 um w⟩]

/-- The six slabs fill the block, -/
theorem slabs_cover (u : Vec F S1024x2048 .bf16) (w : Vec F S768x2048 .bf16) (y : S6x1024x128.Idx) : ∃ pc ∈ slabs u w, y ∈ pc.1.set :=
  View.cover_of_tiledL (slabs u w) S1x1024x128.size (by sl_kernel_rfl) y

/-- and the meta rows' fill theirs. -/
theorem metaSlabs_cover (um : Vec F S64x2048 .bf16) (w : Vec F S768x2048 .bf16) (y : S6x64x128.Idx) : ∃ pc ∈ metaSlabs um w, y ∈ pc.1.set :=
  View.cover_of_tiledL (metaSlabs um w) S1x64x128.size (by sl_kernel_rfl) y

end Cert.KernelInIdeal.Meaning

end
-- ==== Proof.InRowStart.lean ====
/- The input projection's body at the points where rows are normalised. -/
module

public import proofs.«01_k».proof.Proof.InSlabs
public import Idealize.ShloMosaic.Lib.VecWindow

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the first point: both normalisations, then the left columns for the rows and the meta rows. -/
theorem run_first (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : rowStarts i) (h1 : gridStarts i) (h2 : leftCols i) (h3 : leftMeta i) (h4 : ¬rightCols i) (h5 : rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs (k0_pay1 x0 x2) x3)) ∗ owns (c : Thread nD τ) arg8 fullShare (View.canon (metaSlabs (k0_pay2 x1 x2) x3)) ∗ owns (c : Thread nD τ) arg9 fullShare (k0_pay1 x0 x2) ∗ owns (c : Thread nD τ) arg10 fullShare (k0_pay2 x1 x2)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · exact View.readCov_full _ _ _ _ _
    · rfl
  isplitl [H6]
  · iexists _; isplitr; swap; · iexact H6
    ipureintro
    refine (View.read_writes_eq_canon _ _ (metaSlabs _ _) (metaSlabs_cover _ _)).trans (congrArg₂ (fun u w => View.canon (metaSlabs u w)) ?_ ?_)
    · exact View.readCov_full _ _ _ _ _
    · rfl
  isplitl [HS0]
  · iexists _; isplitr; swap; · iexact HS0
    ipureintro
    exact View.read_writes_full _ _ _ _ _
  iexists _; isplitr; swap; · iexact HS1
  ipureintro
  exact View.read_writes_full _ _ _ _ _

set_option maxHeartbeats 400000 in
/-- At the first column of a later row of points: the rows are normalised, then multiplied by left columns. -/
theorem run_rowStart (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : rowStarts i) (h1 : ¬gridStarts i) (h2 : leftCols i) (h3 : ¬leftMeta i) (h4 : ¬rightCols i) (h5 : ¬rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs (k0_pay1 x0 x2) x3)) ∗ owns (c : Thread nD τ) arg8 fullShare d8 ∗ owns (c : Thread nD τ) arg9 fullShare (k0_pay1 x0 x2) ∗ owns (c : Thread nD τ) arg10 fullShare d10) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · exact View.readCov_full _ _ _ _ _
    · rfl
  isplitl [H6]
  · iexists _; isplitr; swap; · iexact H6
    ipureintro
    exact hf6
  isplitl [HS0]
  · iexists _; isplitr; swap; · iexact HS0
    ipureintro
    exact View.read_writes_full _ _ _ _ _
  iexists _; isplitr; swap; · iexact HS1
  ipureintro
  exact hfs1

end Cert.KernelInIdeal.Meaning

end
-- ==== Proof.InLeft.lean ====
/- The input projection's body at the later points of the first weight's columns. -/
module

public import proofs.«01_k».proof.Proof.InSlabs
public import Idealize.ShloMosaic.Lib.VecWindow

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- Further along the first row of points, left columns: rows and meta rows as the scratch holds them. -/
theorem run_leftMeta (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : ¬rowStarts i) (h1 : ¬gridStarts i) (h2 : leftCols i) (h3 : leftMeta i) (h4 : ¬rightCols i) (h5 : rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs d9 x3)) ∗ owns (c : Thread nD τ) arg8 fullShare (View.canon (metaSlabs d10 x3)) ∗ owns (c : Thread nD τ) arg9 fullShare d9 ∗ owns (c : Thread nD τ) arg10 fullShare d10) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · rfl
    · rfl
  isplitl [H6]
  · iexists _; isplitr; swap; · iexact H6
    ipureintro
    refine (View.read_writes_eq_canon _ _ (metaSlabs _ _) (metaSlabs_cover _ _)).trans (congrArg₂ (fun u w => View.canon (metaSlabs u w)) ?_ ?_)
    · rfl
    · rfl
  isplitl [HS0]
  · iexists _; isplitr; swap; · iexact HS0
    ipureintro
    exact hfs0
  iexists _; isplitr; swap; · iexact HS1
  ipureintro
  exact hfs1

set_option maxHeartbeats 400000 in
/-- Further along a later row, left columns: the rows as the scratch holds them. -/
theorem run_left (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : ¬rowStarts i) (h1 : ¬gridStarts i) (h2 : leftCols i) (h3 : ¬leftMeta i) (h4 : ¬rightCols i) (h5 : ¬rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs d9 x3)) ∗ owns (c : Thread nD τ) arg8 fullShare d8 ∗ owns (c : Thread nD τ) arg9 fullShare d9 ∗ owns (c : Thread nD τ) arg10 fullShare d10) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · rfl
    · rfl
  isplitl [H6]
  · iexists _; isplitr; swap; · iexact H6
    ipureintro
    exact hf6
  isplitl [HS0]
  · iexists _; isplitr; swap; · iexact HS0
    ipureintro
    exact hfs0
  iexists _; isplitr; swap; · iexact HS1
  ipureintro
  exact hfs1

end Cert.KernelInIdeal.Meaning

end
-- ==== Proof.InRight.lean ====
/- The input projection's body at the points of the second weight's columns. -/
module

public import proofs.«01_k».proof.Proof.InSlabs
public import Idealize.ShloMosaic.Lib.VecWindow

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- At the end of the first row of points: right columns, rows and meta rows as the scratch holds them. -/
theorem run_rightMeta (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : ¬rowStarts i) (h1 : ¬gridStarts i) (h2 : ¬leftCols i) (h3 : leftMeta i) (h4 : rightCols i) (h5 : rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs d9 x4)) ∗ owns (c : Thread nD τ) arg8 fullShare (View.canon (metaSlabs d10 x4)) ∗ owns (c : Thread nD τ) arg9 fullShare d9 ∗ owns (c : Thread nD τ) arg10 fullShare d10) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · rfl
    · rfl
  isplitl [H6]
  · iexists _; isplitr; swap; · iexact H6
    ipureintro
    refine (View.read_writes_eq_canon _ _ (metaSlabs _ _) (metaSlabs_cover _ _)).trans (congrArg₂ (fun u w => View.canon (metaSlabs u w)) ?_ ?_)
    · rfl
    · rfl
  isplitl [HS0]
  · iexists _; isplitr; swap; · iexact HS0
    ipureintro
    exact hfs0
  iexists _; isplitr; swap; · iexact HS1
  ipureintro
  exact hfs1

set_option maxHeartbeats 400000 in
/-- At the end of a later row: right columns, the rows as the scratch holds them. -/
theorem run_right (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h0 : ¬rowStarts i) (h1 : ¬gridStarts i) (h2 : ¬leftCols i) (h3 : ¬leftMeta i) (h4 : rightCols i) (h5 : ¬rightMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs d9 x4)) ∗ owns (c : Thread nD τ) arg8 fullShare d8 ∗ owns (c : Thread nD τ) arg9 fullShare d9 ∗ owns (c : Thread nD τ) arg10 fullShare d10) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0; obtain rfl := harg10.eq_unread hfs1
  have e0 := (View.readAt_full arg2.view (harg2.unread x0) inb_S1024x2048_S1024x2048_0_0).trans hf0
  have e1 := (View.readAt_full arg3.view (harg3.unread x1) inb_S64x2048_S64x2048_0_0).trans hf1
  have e2 := (View.readAt_full arg4.view (harg4.unread x2) inb_S1x2048_S1x2048_0_0).trans hf2
  have e3 := (View.readAt_full arg5.view (harg5.unread x3) inb_S768x2048_S768x2048_0_0).trans hf3
  have e4 := (View.readAt_full arg6.view (harg6.unread x4) inb_S768x2048_S768x2048_0_0).trans hf4
  have e9 := (View.readAt_full arg9.view (harg9.unread d9) inb_S1024x2048_S1024x2048_0_0).trans hfs0
  have e10 := (View.readAt_full arg10.view (harg10.unread d10) inb_S64x2048_S64x2048_0_0).trans hfs1
  sl_exec (disch := first | sl_exact h0 | sl_exact h1 | sl_exact h2 | sl_exact h3 | sl_exact h4 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_eq_canon _ _ (slabs _ _) (slabs_cover _ _)).trans (congrArg₂ (fun u w => View.canon (slabs u w)) ?_ ?_)
    · rfl
    · rfl
  isplitl [H6]
  · iexists _; isplitr; swap; · iexact H6
    ipureintro
    exact hf6
  isplitl [HS0]
  · iexists _; isplitr; swap; · iexact HS0
    ipureintro
    exact hfs0
  iexists _; isplitr; swap; · iexact HS1
  ipureintro
  exact hfs1

end Cert.KernelInIdeal.Meaning

end
-- ==== Proof.InBody.lean ====
/- The input projection's body at any point. -/
module

public import proofs.«01_k».proof.Proof.InRowStart
public import proofs.«01_k».proof.Proof.InLeft
public import proofs.«01_k».proof.Proof.InRight
public import Idealize.ShloMosaic.Lib.VecWindow

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at a point. It is given the inputs `x0 … x4`, the scratch at `d9`, `d10`, the meta rows' output at `d8`. Let `u`, `um` be
    the normalised rows the point works with (computed here, or found in the scratch), `w` the weight rows it multiplies by and
    `z` the meta rows' output block it leaves (written here, or as found). Then it leaves `u` and `um` in the scratch, the
    slabs of `u` times `w` in the main output, `z` in the meta rows'. -/
theorem body_run (c : Dev nD) (i : grid0.Coords) (arg2 : Memref sig .tc .vmem S1024x2048 .f32) (harg2 : arg2.IsWhole) (arg3 : Memref sig .tc .vmem S64x2048 .f32) (harg3 : arg3.IsWhole) (arg4 : Memref sig .tc .vmem S1x2048 .f32) (harg4 : arg4.IsWhole) (arg5 : Memref sig .tc .vmem S768x2048 .bf16) (harg5 : arg5.IsWhole) (arg6 : Memref sig .tc .vmem S768x2048 .bf16) (harg6 : arg6.IsWhole) (arg7 : Memref sig .tc .vmem S6x1024x128 .f32) (harg7 : arg7.IsWhole) (arg8 : Memref sig .tc .vmem S6x64x128 .f32) (harg8 : arg8.IsWhole) (arg9 : Memref sig .tc .vmem S1024x2048 .bf16) (harg9 : arg9.IsWhole) (arg10 : Memref sig .tc .vmem S64x2048 .bf16) (harg10 : arg10.IsWhole)
    (h01 : gridStarts i ↔ rowStarts i ∧ leftMeta i) (h02 : rowStarts i → leftCols i) (h24 : rightCols i ↔ ¬leftCols i) (h35 : rightMeta i ↔ leftMeta i)
    (x0 : Vec F S1024x2048 .f32) (x1 : Vec F S64x2048 .f32) (x2 : Vec F S1x2048 .f32) (x3 : Vec F S768x2048 .bf16) (x4 : Vec F S768x2048 .bf16)
    (d8 : Vec F S6x64x128 .f32) (d9 : Vec F S1024x2048 .bf16) (d10 : Vec F S64x2048 .bf16)
    (u : Vec F S1024x2048 .bf16) (um : Vec F S64x2048 .bf16) (w : Vec F S768x2048 .bf16) (z : Vec F S6x64x128 .f32)
    (hu : rowStarts i → k0_pay1 x0 x2 = u) (hu' : ¬rowStarts i → d9 = u) (hm : gridStarts i → k0_pay2 x1 x2 = um) (hm' : ¬gridStarts i → d10 = um)
    (hw : leftCols i → x3 = w) (hw' : ¬leftCols i → x4 = w) (hz : leftMeta i → View.canon (metaSlabs um w) = z) (hz' : ¬leftMeta i → d8 = z)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9 ∗ owns (c : Thread nD τ) arg10 fullShare d10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon (slabs u w)) ∗ owns (c : Thread nD τ) arg8 fullShare z ∗ owns (c : Thread nD τ) arg9 fullShare u ∗ owns (c : Thread nD τ) arg10 fullShare um) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  by_cases h0 : rowStarts i
  · obtain rfl := hu h0
    obtain rfl := hw (h02 h0)
    by_cases h3 : leftMeta i
    · obtain rfl := hm (h01.mpr ⟨h0, h3⟩)
      obtain rfl := hz h3
      exact run_first c i arg2 harg2 arg3 harg3 arg4 harg4 arg5 harg5 arg6 harg6 arg7 harg7 arg8 harg8 arg9 harg9 arg10 harg10
        h0 (h01.mpr ⟨h0, h3⟩) (h02 h0) h3 (fun h => h24.mp h (h02 h0)) (h35.mpr h3) x0 x1 x2 x3 x4 d8 d9 d10 E K
    · obtain rfl := hm' fun h => h3 (h01.mp h).2
      obtain rfl := hz' h3
      exact run_rowStart c i arg2 harg2 arg3 harg3 arg4 harg4 arg5 harg5 arg6 harg6 arg7 harg7 arg8 harg8 arg9 harg9 arg10 harg10
        h0 (fun h => h3 (h01.mp h).2) (h02 h0) h3 (fun h => h24.mp h (h02 h0)) (fun h => h3 (h35.mp h)) x0 x1 x2 x3 x4 d8 d9 d10 E K
  · have h1 : ¬gridStarts i := fun h => h0 (h01.mp h).1
    obtain rfl := hu' h0
    obtain rfl := hm' h1
    by_cases h2 : leftCols i <;> by_cases h3 : leftMeta i
    · obtain rfl := hw h2
      obtain rfl := hz h3
      exact run_leftMeta c i arg2 harg2 arg3 harg3 arg4 harg4 arg5 harg5 arg6 harg6 arg7 harg7 arg8 harg8 arg9 harg9 arg10 harg10
        h0 h1 h2 h3 (fun h => h24.mp h h2) (h35.mpr h3) x0 x1 x2 x3 x4 d8 d9 d10 E K
    · obtain rfl := hw h2
      obtain rfl := hz' h3
      exact run_left c i arg2 harg2 arg3 harg3 arg4 harg4 arg5 harg5 arg6 harg6 arg7 harg7 arg8 harg8 arg9 harg9 arg10 harg10
        h0 h1 h2 h3 (fun h => h24.mp h h2) (fun h => h3 (h35.mp h)) x0 x1 x2 x3 x4 d8 d9 d10 E K
    · obtain rfl := hw' h2
      obtain rfl := hz h3
      exact run_rightMeta c i arg2 harg2 arg3 harg3 arg4 harg4 arg5 harg5 arg6 harg6 arg7 harg7 arg8 harg8 arg9 harg9 arg10 harg10
        h0 h1 h2 h3 (h24.mpr h2) (h35.mpr h3) x0 x1 x2 x3 x4 d8 d9 d10 E K
    · obtain rfl := hw' h2
      obtain rfl := hz' h3
      exact run_right c i arg2 harg2 arg3 harg3 arg4 harg4 arg5 harg5 arg6 harg6 arg7 harg7 arg8 harg8 arg9 harg9 arg10 harg10
        h0 h1 h2 h3 (h24.mpr h2) (fun h => h3 (h35.mp h)) x0 x1 x2 x3 x4 d8 d9 d10 E K

end Cert.KernelInIdeal.Meaning

end
-- ==== Proof.InRun.lean ====
/- The input projection's run: what every buffer holds from point to point, and with it the launch. -/
module

public import proofs.«01_k».proof.Proof.InBody
public import Idealize.ShloMosaic.Lib.Claim

@[expose] public section

set_option maxRecDepth 16384

noncomputable section

namespace Cert.KernelInIdeal.Meaning

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's number is below 176. -/
theorem point_lt (t : Fin cfg0.N) : t.val < 176 := Nat.lt_of_lt_of_eq t.isLt N_0

/-- The point at which `t`'s row block was normalised, -/
def rowHead (t : Fin cfg0.N) : Fin cfg0.N := ⟨t.val / 11 * 11, Nat.lt_of_le_of_lt (Nat.div_mul_le_self _ _) t.isLt⟩

/-- the first point, -/
def origin : Fin cfg0.N := ⟨0, Nat.lt_of_lt_of_eq (by omega) N_0.symm⟩

/-- and the last point up to `t` at which the meta rows were multiplied. -/
def metaPoint (t : Fin cfg0.N) : Fin cfg0.N := ⟨min t.val 10, Nat.lt_of_le_of_lt (Nat.min_le_left _ _) t.isLt⟩

/-- The normalised rows at point `t`, -/
def rowsAt (c : Dev nD) (t : Fin cfg0.N) : Vec F S1024x2048 .bf16 := k0_pay1 (iblk m c 0 (rowHead t)) (iblk m c 2 (rowHead t))

/-- the normalised meta rows, -/
def metaRows (c : Dev nD) : Vec F S64x2048 .bf16 := k0_pay2 (iblk m c 1 origin) (iblk m c 2 origin)

/-- the weight rows point `t` multiplies by, -/
def weightAt (c : Dev nD) (t : Fin cfg0.N) : Vec F S768x2048 .bf16 := if t.val % 11 < 9 then X0_3 m c t else iblk m c 4 t

/-- the main output's block after point `t`, -/
def blockAt (c : Dev nD) (t : Fin cfg0.N) : Vec F S6x1024x128 .f32 := View.canon (slabs (rowsAt m c t) (weightAt m c t))

/-- and the meta rows' output block. -/
def metaBlockAt (c : Dev nD) (t : Fin cfg0.N) : Vec F S6x64x128 .f32 := View.canon (metaSlabs (metaRows m c) (weightAt m c (metaPoint t)))

/-- What holds before point `n` beside the windows: before the first what the launch gives; later the scratch at the point
    before's rows and the meta rows. -/
def between (c : Dev nD) : (n : ℕ) → n ≤ cfg0.N → sProp 𝕄
  | 0, _ => Pipeline.ΦA spec0 c
  | n + 1, h => iprop(iprop(owns (c : Thread nD τ) su fullShare (rowsAt m c ⟨n, h⟩) ∗ owns (c : Thread nD τ) sm fullShare (metaRows m c)) ∗ (∃ r, prngReg c r))

/-- The pipeline's data: the arrays as found; each input block left in place; the outputs' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => blockAt m c t
    | ⟨6, _⟩ => metaBlockAt m c t
  Φ t := between m c t.val (Nat.le_of_lt_succ t.isLt)
  q _ := fullShare
  owed _ := 0

theorem arrays_eq (c : Dev nD) (w : Fin cfg0.W) : (dats m 0 c).A w = V m c (Pipeline.arrRef spec0 w) := by dsimp only [dats]

/-- What the data says each window's buffer holds after the body. -/
theorem after_x (c : Dev nD) (t : Fin cfg0.N) : (dats m 0 c).after 0 t = iblk m c 0 t := by dsimp only [dats]
theorem after_xm (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_l (c : Dev nD) (t : Fin cfg0.N) : (dats m 0 c).after 3 t = X0_3 m c t := by dsimp only [dats]
theorem after_r (c : Dev nD) (t : Fin cfg0.N) : (dats m 0 c).after 4 t = iblk m c 4 t := by dsimp only [dats]
theorem after_o (c : Dev nD) (t : Fin cfg0.N) : (dats m 0 c).after 5 t = blockAt m c t := by dsimp only [dats]
theorem after_om (c : Dev nD) (t : Fin cfg0.N) : (dats m 0 c).after 6 t = metaBlockAt m c t := by dsimp only [dats]

/-- What the inputs' buffers hold when the body is entered: their blocks. -/
theorem before_x (c : Dev nD) (t : Fin cfg0.N) (d) : (dats m 0 c).before 0 t d = iblk m c 0 t :=
  before0_0_of m (dats m 0 c) (arrays_eq m c 0) (after_x m c) t d
theorem before_xm (c : Dev nD) (t : Fin cfg0.N) (d) : (dats m 0 c).before 1 t d = iblk m c 1 t :=
  before0_1_of m (dats m 0 c) (arrays_eq m c 1) (after_xm m c) t d
theorem before_g (c : Dev nD) (t : Fin cfg0.N) (d) : (dats m 0 c).before 2 t d = iblk m c 2 t :=
  before0_2_of m (dats m 0 c) (arrays_eq m c 2) (after_g m c) t d
theorem before_l (c : Dev nD) (t : Fin cfg0.N) (d) : (dats m 0 c).before 3 t d = X0_3 m c t :=
  before0_3_of m (dats m 0 c) (arrays_eq m c 3) (after_l m c) t d
theorem before_r (c : Dev nD) (t : Fin cfg0.N) (d) : (dats m 0 c).before 4 t d = iblk m c 4 t :=
  before0_4_of m (dats m 0 c) (arrays_eq m c 4) (after_r m c) t d

/-- Past the first row of points the meta rows' block stays what it was. -/
theorem metaBlock_stays (c : Dev nD) (t : Fin cfg0.N) (h : 11 ≤ t.val) (h' : t.val - 1 < cfg0.N) :
    metaBlockAt m c ⟨t.val - 1, h'⟩ = metaBlockAt m c t := by
  unfold metaBlockAt
  rw [show metaPoint ⟨t.val - 1, h'⟩ = metaPoint t from Fin.ext (by
    show min (t.val - 1) 10 = min t.val 10
    omega)]

/-- So there its buffer holds, when the body is entered, the block it is to hold afterwards. -/
theorem before_om (c : Dev nD) (t : Fin cfg0.N) (h : 11 ≤ t.val) (d) : (dats m 0 c).before 6 t d = metaBlockAt m c t := by
  rw [(dats m 0 c).before_out_traj 6 rfl (fun _ _ => rfl) (fun t _ hi _ => by
      have h11 : 11 ≤ t.val := of_decide_eq_true ((idles t).2 ▸ hi)
      rw [after_om, after_om, metaBlock_stays m c t h11]) t.val t rfl d,
    fresh6 t, decide_eq_false (by omega), if_neg Bool.false_ne_true, after_om, metaBlock_stays m c t h]

/-- Handing over the meta rows' buffer with its block is what the body owes for it, at every point. -/
theorem leaves_om (c : Dev nD) (t : Fin cfg0.N) :
    owns (c : Thread nD τ) (bom t) fullShare (metaBlockAt m c t) ⊢ ((dats m 0 c).leavesExact 6 t : sProp 𝕄) := by
  unfold Dat.leavesExact
  rw [(idles t).2]
  by_cases h : 11 ≤ t.val
  · rw [decide_eq_true h]
    cases (cfg0.win 6).flush t
    · dsimp only
      iintro H
      iexists (metaBlockAt m c t)
      rw [before_om m c t h]
      iexact H
    · dsimp only
      rw [after_om]
  · rw [decide_eq_false h]
    dsimp only
    rw [after_om]

theorem leaves_o (c : Dev nD) (t : Fin cfg0.N) :
    (dats m 0 c).leavesExact 5 t = owns (c : Thread nD τ) (bo t) fullShare (blockAt m c t) := by
  unfold Dat.leavesExact
  rw [(idles t).1]
  dsimp only
  rw [after_o]

/-- The scratch when point `t`'s body is entered: unless the point normalises them itself, the rows it works with. -/
theorem scratch_found (c : Dev nD) (t : Fin cfg0.N) :
    (dats m 0 c).Φ t.castSucc ⊢ (iprop(∃ d9 d10, ⌜(¬t.val % 11 = 0 → d9 = rowsAt m c t) ∧ (¬t.val = 0 → d10 = metaRows m c)⌝
      ∗ owns (c : Thread nD τ) su fullShare d9 ∗ owns (c : Thread nD τ) sm fullShare d10 ∗ (∃ r, prngReg c r)) : sProp 𝕄) := by
  rw [show (dats m 0 c).Φ t.castSucc = between m c t.val (Nat.le_of_lt t.isLt) from by
    dsimp only [dats]; exact Pipeline.Dat.Φ_castSucc (between m c) t]
  obtain ⟨n, hn⟩ := t
  cases n with
  | zero =>
    show Pipeline.ΦA spec0 c ⊢ _
    rw [rest_eq]
    iintro ⟨⟨⟨%d9, H9⟩, ⟨%d10, H10⟩⟩, Hg⟩
    iexists d9, d10
    isplitr
    · ipureintro; exact ⟨fun h => absurd rfl h, fun h => absurd rfl h⟩
    isplitl [H9]; · iexact H9
    isplitl [H10]; · iexact H10
    iexact Hg
  | succ n =>
    show iprop(iprop(owns (c : Thread nD τ) su fullShare (rowsAt m c ⟨n, _⟩) ∗ owns (c : Thread nD τ) sm fullShare (metaRows m c)) ∗ (∃ r, prngReg c r)) ⊢ _
    iintro ⟨⟨H9, H10⟩, Hg⟩
    iexists _, _
    isplitr
    rotate_left
    · isplitl [H9]; · iexact H9
      isplitl [H10]; · iexact H10
      iexact Hg
    ipureintro
    refine ⟨fun h => ?_, fun _ => rfl⟩
    unfold rowsAt
    rw [show rowHead ⟨n, Nat.lt_of_succ_lt hn⟩ = rowHead ⟨n + 1, hn⟩ from Fin.ext (by
      show n / 11 * 11 = (n + 1) / 11 * 11
      have : ¬(n + 1) % 11 = 0 := h
      omega)]

/-- What the body is given at point `t`, window by window, -/
def given (c : Dev nD) (t : Fin cfg0.N) : sProp 𝕄 :=
  iprop((dats m 0 c).Φ t.castSucc ∗ (dats m 0 c).owesAt () t.castSucc
    ∗ (∃ d, owns (c : Thread nD τ) (bx t) fullShare ((dats m 0 c).before 0 t d))
    ∗ (∃ d, owns (c : Thread nD τ) (bxm t) fullShare ((dats m 0 c).before 1 t d))
    ∗ (∃ d, owns (c : Thread nD τ) (bg t) fullShare ((dats m 0 c).before 2 t d))
    ∗ (∃ d, owns (c : Thread nD τ) (bl t) fullShare ((dats m 0 c).before 3 t d))
    ∗ (∃ d, owns (c : Thread nD τ) (br t) fullShare ((dats m 0 c).before 4 t d))
    ∗ (∃ d, owns (c : Thread nD τ) (bo t) fullShare ((dats m 0 c).before 5 t d))
    ∗ (∃ d, owns (c : Thread nD τ) (bom t) fullShare ((dats m 0 c).before 6 t d)))

/-- and what it owes. -/
def owed (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The body keeps the data's promises at every point. -/
theorem body_sound (c : Dev nD) (t : Fin cfg0.N) :
    given m c t ⊢ wp frame (wpE (defs₀ (F := F)) Variants.none c none) Set.univ (bodyAt0 t) (fun _ => owed m c t) := by
  unfold given owed bodyAt0
  simp only [before_x, before_xm, before_g, before_l, before_r]
  rw [show (dats m 0 c).owesAt () t.succ = (dats m 0 c).owesAt () t.castSucc from rfl,
    show (dats m 0 c).Φ t.succ = iprop(iprop(owns (c : Thread nD τ) su fullShare (rowsAt m c t) ∗ owns (c : Thread nD τ) sm fullShare (metaRows m c)) ∗ (∃ r, prngReg c r)) from rfl,
    show (dats m 0 c).leavesExact 0 t = owns (c : Thread nD τ) (bx t) fullShare ((dats m 0 c).after 0 t) from rfl,
    show (dats m 0 c).leavesExact 1 t = owns (c : Thread nD τ) (bxm t) fullShare ((dats m 0 c).after 1 t) from rfl,
    show (dats m 0 c).leavesExact 2 t = owns (c : Thread nD τ) (bg t) fullShare ((dats m 0 c).after 2 t) from rfl,
    show (dats m 0 c).leavesExact 3 t = owns (c : Thread nD τ) (bl t) fullShare ((dats m 0 c).after 3 t) from rfl,
    show (dats m 0 c).leavesExact 4 t = owns (c : Thread nD τ) (br t) fullShare ((dats m 0 c).after 4 t) from rfl,
    after_x, after_xm, after_g, after_l, after_r, leaves_o]
  obtain ⟨b0, b1, b2, b3, b4, b5⟩ := branches t
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ := (scratch_found m c t) $$ HΦ
  icases HΦ with ⟨%d9, %d10, %hd, H9, H10, Hg⟩
  iapply (body_run c (grid0.coords t) _ _ _ _ _ _ _ _ _ _ _ _ _ _ _ _ _ _
    (by rw [b0, b1, b3]; omega) (by rw [b0, b2]; omega) (by rw [b2, b4]) (by rw [b3, b5])
    (iblk m c 0 t) (iblk m c 1 t) (iblk m c 2 t) (X0_3 m c t) (iblk m c 4 t) _ d9 d10
    (rowsAt m c t) (metaRows m c) (weightAt m c t) (metaBlockAt m c t)
    (fun h => by
      unfold rowsAt
      rw [show rowHead t = t from Fin.ext (by have := b0.mp h; show t.val / 11 * 11 = t.val; omega)])
    (fun h => hd.1 fun h' => h (b0.mpr h'))
    (fun h => by
      unfold metaRows
      rw [show origin = t from Fin.ext (b1.mp h).symm])
    (fun h => hd.2 fun h' => h (b1.mpr h'))
    (fun h => (if_pos (b2.mp h)).symm) (fun h => (if_neg fun h' => h (b2.mpr h')).symm)
    (fun h => by
      unfold metaBlockAt
      rw [show metaPoint t = t from Fin.ext (by have := b3.mp h; show min t.val 10 = t.val; omega)])
    (fun h => before_om m c t (Nat.le_of_not_lt fun h' => h (b3.mpr h')) d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H9]; · iexact H9
  isplitl [H10]; · iexact H10
  iintro ⟨H0, H1, H2, H3, H4, H5, H6, H9, H10⟩
  isplitl [H9 H10 Hg]
  · isplitl [H9 H10]
    · isplitl [H9]; · iexact H9
      iexact H10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_om m c t); iexact H6

/-- The same as the library asks for it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_sound m c t) rfl .rfl fun _ => .rfl

/-- After the last point the scratch is given back, its contents forgotten. -/
theorem given_back (c : Dev nD) : (dats m 0 c).Φ (Fin.last cfg0.N) ⊢ (Pipeline.ΦA spec0 c : sProp 𝕄) := by
  rw [show (dats m 0 c).Φ (Fin.last cfg0.N) = between m c (175 + 1) (by show 175 + 1 ≤ grid0.N; rw [N_0]) from rfl, rest_eq]
  show iprop(iprop(owns (c : Thread nD τ) su fullShare _ ∗ owns (c : Thread nD τ) sm fullShare (metaRows m c)) ∗ (∃ r, prngReg c r)) ⊢ _
  iintro ⟨⟨H9, H10⟩, Hg⟩
  isplitl [H9 H10]
  · isplitl [H9]
    · iexists _; iexact H9
    iexists _; iexact H10
  iexact Hg

set_option backward.isDefEq.respectTransparency.types false in
/-- The launch: every execution ends, with every array at what the data says and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m)
    (hin := fun c => Idealize.SL.BI.Entails.refl _) (hout := given_back m)

/-- So the arguments end as they began and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays_eq m) ((θ_run defs _ _).mono (fun _ h => h.1) (run_quiet m ρ)))
    ((θ_run defs _ _).mono (fun _ h => h.2) (run_quiet m ρ))

end Cert.KernelInIdeal.Meaning

end
-- ==== Proof.InRef.lean ====
/- The input projection's reference, read at an index: what `reference_in` leaves for each of its two results. -/
module

public import proofs.«01_k».proof.Proof.Gen.ReferenceInIdeal.Run
public import Idealize.ShloMosaic.Lib.Pointwise

@[expose] public section

set_option maxRecDepth 16384

noncomputable section

namespace Cert.ReferenceInIdeal.Meaning

open Cert.ReferenceInIdeal Cert.ReferenceInIdeal.Gen Idealize.ShloMosaic Idealize.ShloMosaic.TcCoe Idealize.SL.Sem

/-- The 16 meta tokens in front of each batch element's tokens. -/
def stacked (M : FVec Ideal S16x2048 .f32) (X : FVec Ideal S4x4096x2048 .f32) : FVec Ideal S4x4112x2048 .f32 :=
  concatenate S4x4112x2048 1 [⟨S4x16x2048, (broadcastInDim S4x16x2048 ![0, 1, 2] bcast_S1x16x2048_S4x16x2048_0_1_2 (broadcastInDim S1x16x2048 ![1, 2] bcast_S16x2048_S1x16x2048_1_2 M))⟩, ⟨S4x4096x2048, X⟩] concatenates_S4x16x2048_S4x4096x2048_S4x4112x2048_d1

/-- The RMS normalisation of every token. -/
def normed (H : FVec Ideal S4x4112x2048 .f32) (g : FVec Ideal S1x2048 .f32) : FVec Ideal S4x4112x2048 .f32 :=
  mulf (mulf H (broadcastInDim S4x4112x2048 ![0, 1, 2] bcast_S4x4112x1_S4x4112x2048_0_1_2 (Host.rsqrt (addf (Host.divf (broadcastInDim S4x4112x1 ![0, 1] bcast_S4x4112_S4x4112x1_0_1 (Host.reduceAdd (mulf H H) (constant S_ .f32 0x00000000#32) reducesTo_S4x4112x2048_S4x4112_d2 h_S_)) (broadcastInDim S4x4112x1 ![] bcast_S_S4x4112x1 (constant S_ .f32 0x45000000#32))) (broadcastInDim S4x4112x1 ![] bcast_S_S4x4112x1 (constant S_ .f32 0x358637BD#32)))))) (broadcastInDim S4x4112x2048 ![0, 1, 2] bcast_S1x1x2048_S4x4112x2048_0_1_2 (broadcastInDim S1x1x2048 ![2] bcast_S2048_S1x1x2048_2 (shapeCast _ g shapeCasts_S1x2048_S2048)))

/-- The projection. -/
def projected (N : FVec Ideal S4x4112x2048 .f32) (W : FVec Ideal S1x2048x8336 .f32) : FVec Ideal S4x4112x8336 .f32 :=
  Host.dotGeneral dot_S4x4112x2048_S2048x8336_S4x4112x8336_2_0_01_1_n_n none N (shapeCast _ W shapeCasts_S1x2048x8336_S2048x8336)

/-- The projected columns in the mixers' order, padded with zeros. -/
def ordered (P : FVec Ideal S4x4112x8336 .f32) : FVec Ideal S4x4112x8448 .f32 :=
  concatenate S4x4112x8448 2 [⟨S4x4112x3200, (extractStridedSlice S4x4112x3200 ![0, 0, 0] P slices_S4x4112x8336_S4x4112x3200_0_0_0)⟩, ⟨S4x4112x1024, (extractStridedSlice S4x4112x1024 ![0, 0, 3200] P slices_S4x4112x8336_S4x4112x1024_0_0_3200)⟩, ⟨S4x4112x3072, (extractStridedSlice S4x4112x3072 ![0, 0, 4224] P slices_S4x4112x8336_S4x4112x3072_0_0_4224)⟩, ⟨S4x4112x1024, (extractStridedSlice S4x4112x1024 ![0, 0, 7312] P slices_S4x4112x8336_S4x4112x1024_0_0_7312)⟩, ⟨S4x4112x8, (extractStridedSlice S4x4112x8 ![0, 0, 7296] P slices_S4x4112x8336_S4x4112x8_0_0_7296)⟩, ⟨S4x4112x8, (extractStridedSlice S4x4112x8 ![0, 0, 7304] P slices_S4x4112x8336_S4x4112x8_0_0_7304)⟩, ⟨S4x4112x112, (broadcastInDim S4x4112x112 ![] bcast_S_S4x4112x112 (constant S_ .f32 0x00000000#32))⟩] concatenates_S4x4112x3200_S4x4112x1024_S4x4112x3072_S4x4112x1024_S4x4112x8_S4x4112x8_S4x4112x112_S4x4112x8448_d2

/-- The tokens' columns in groups of 128, the group first. -/
def mainOut (C : FVec Ideal S4x4112x8448 .f32) : FVec Ideal S66x16384x128 .f32 :=
  transpose S66x16384x128 [1, 0, 2] (shapeCast _ (extractStridedSlice S4x4096x8448 ![0, 16, 0] C slices_S4x4112x8448_S4x4096x8448_0_16_0) shapeCasts_S4x4096x8448_S16384x66x128) transposes_S16384x66x128_S66x16384x128_1_0_2

/-- The meta tokens' columns behind 48 null positions, in the same groups. -/
def metaOut (C : FVec Ideal S4x4112x8448 .f32) : FVec Ideal S66x64x128 .f32 :=
  transpose S66x64x128 [1, 0, 2] (shapeCast _ (concatenate S64x8448 0 [⟨S48x8448, (broadcastInDim S48x8448 ![] bcast_S_S48x8448 (constant S_ .f32 0x00000000#32))⟩, ⟨S16x8448, (shapeCast _ (extractStridedSlice S1x16x8448 ![0, 0, 0] C slices_S4x4112x8448_S1x16x8448_0_0_0) shapeCasts_S1x16x8448_S16x8448)⟩] concatenates_S48x8448_S16x8448_S64x8448_d0) shapeCasts_S64x8448_S64x66x128) transposes_S64x66x128_S66x64x128_1_0_2

/-- A row over its root mean square, times the norm's weight. -/
def rms (x : Fin 2048 → EReal) (g : Fin 2048 → EReal) (k : Fin 2048) : EReal :=
  x k * Ideal.rsqrt (Ideal.div (∑ j : Fin 2048, x j * x j) (Ideal.ofBits FTy.f32 0x45000000#32) + Ideal.ofBits FTy.f32 0x358637BD#32) * g k

/-- The weight's columns in the mixers' order, padded with zeros. -/
def wcol (W : FVec Ideal S1x2048x8336 .f32) (k : Fin 2048) (j : ℕ) : EReal :=
  if h : j < 7296 then W (ix3 0 k ⟨j, by omega⟩)
  else if h : j < 8320 then W (ix3 0 k ⟨j + 16, by omega⟩)
  else if h : j < 8336 then W (ix3 0 k ⟨j - 1024, by omega⟩)
  else 0

theorem stacked_meta (M : FVec Ideal S16x2048 .f32) (X : FVec Ideal S4x4096x2048 .f32) (b : Fin 4) (s : Fin 16) (k : Fin 2048) :
    stacked M X (ix3 b ⟨(s : ℕ), by omega⟩ k) = M (ix2 s k) := by
  pointwise [stacked]

theorem stacked_main (M : FVec Ideal S16x2048 .f32) (X : FVec Ideal S4x4096x2048 .f32) (b : Fin 4) (s : Fin 4096) (k : Fin 2048) :
    stacked M X (ix3 b ⟨16 + (s : ℕ), by omega⟩ k) = X (ix3 b s k) := by
  pointwise [stacked]

theorem normed_at (H : FVec Ideal S4x4112x2048 .f32) (g : FVec Ideal S1x2048 .f32) (b : Fin 4) (s : Fin 4112) (k : Fin 2048) :
    normed H g (ix3 b s k) = rms (fun j => H (ix3 b s j)) (fun j => g (ix2 0 j)) k := by
  pointwise [normed, rms]

theorem projected_at (N : FVec Ideal S4x4112x2048 .f32) (W : FVec Ideal S1x2048x8336 .f32) (b : Fin 4) (s : Fin 4112) (o : Fin 8336) :
    projected N W (ix3 b s o) = ∑ k : Fin 2048, N (ix3 b s k) * W (ix3 0 k o) := by
  pointwise [projected]

set_option maxHeartbeats 1600000 in
theorem ordered_at (P : FVec Ideal S4x4112x8336 .f32) (b : Fin 4) (s : Fin 4112) (j : Fin 8448) :
    ordered P (ix3 b s j) = if h : (j : ℕ) < 7296 then P (ix3 b s ⟨j, by omega⟩)
      else if h : (j : ℕ) < 8320 then P (ix3 b s ⟨(j : ℕ) + 16, by omega⟩)
      else if h : (j : ℕ) < 8336 then P (ix3 b s ⟨(j : ℕ) - 1024, by omega⟩)
      else 0 := by
  pointwise [ordered]
  by_cases a : (j : ℕ) < 7296
  · rw [dif_pos a]
    split_ifs <;> first | (exfalso; omega) | exact congrArg P ((ix3_inj ..).2 ⟨rfl, rfl, Fin.ext (by dsimp only <;> omega)⟩)
  rw [dif_neg a]
  by_cases a' : (j : ℕ) < 8320
  · rw [dif_pos a']
    split_ifs <;> first | (exfalso; omega) | exact congrArg P ((ix3_inj ..).2 ⟨rfl, rfl, Fin.ext (by dsimp only; omega)⟩)
  rw [dif_neg a']
  by_cases a'' : (j : ℕ) < 8336
  · rw [dif_pos a'']
    split_ifs <;> first | (exfalso; omega) | exact congrArg P ((ix3_inj ..).2 ⟨rfl, rfl, Fin.ext (by dsimp only; omega)⟩)
  rw [dif_neg a'']
  split_ifs <;> first | (exfalso; omega) | rfl

/-- So column `j` of a token's reordered row is its normalised row times column `j` of the reordered weight. -/
theorem cols_at (N : FVec Ideal S4x4112x2048 .f32) (W : FVec Ideal S1x2048x8336 .f32) (b : Fin 4) (s : Fin 4112) (j : Fin 8448) :
    ordered (projected N W) (ix3 b s j) = ∑ k : Fin 2048, N (ix3 b s k) * wcol W k j := by
  rw [ordered_at]
  unfold wcol
  split_ifs with h1 h2 h3
  · exact projected_at ..
  · exact projected_at ..
  · exact projected_at ..
  · exact (Finset.sum_eq_zero fun k _ => mul_zero _).symm

theorem mainOut_at (C : FVec Ideal S4x4112x8448 .f32) (q : Fin 66) (r : Fin 16384) (d : Fin 128) :
    mainOut C (ix3 q r d) = C (ix3 ⟨(r : ℕ) / 4096, by omega⟩ ⟨16 + (r : ℕ) % 4096, by omega⟩ ⟨(q : ℕ) * 128 + d, by omega⟩) := by
  pointwise [mainOut]

theorem metaOut_at (C : FVec Ideal S4x4112x8448 .f32) (q : Fin 66) (r : Fin 64) (d : Fin 128) :
    metaOut C (ix3 q r d) = if h : (r : ℕ) < 48 then 0 else C (ix3 0 ⟨(r : ℕ) - 48, by omega⟩ ⟨(q : ℕ) * 128 + d, by omega⟩) := by
  pointwise [metaOut]

/-- The reordered projected columns of all the tokens, from the four arguments. -/
def cols (X : FVec Ideal S4x4096x2048 .f32) (M : FVec Ideal S16x2048 .f32) (g : FVec Ideal S1x2048 .f32) (W : FVec Ideal S1x2048x8336 .f32) : FVec Ideal S4x4112x8448 .f32 :=
  ordered (projected (normed (stacked M X) g) W)

/-- The first result: row `r` is token `r % 4096` of batch element `r / 4096`. -/
theorem main_at (X : FVec Ideal S4x4096x2048 .f32) (M : FVec Ideal S16x2048 .f32) (g : FVec Ideal S1x2048 .f32) (W : FVec Ideal S1x2048x8336 .f32)
    (q : Fin 66) (r : Fin 16384) (d : Fin 128) :
    mainOut (cols X M g W) (ix3 q r d) = ∑ k : Fin 2048,
      rms (fun j => X (ix3 ⟨(r : ℕ) / 4096, by omega⟩ ⟨(r : ℕ) % 4096, by omega⟩ j)) (fun j => g (ix2 0 j)) k * wcol W k ((q : ℕ) * 128 + d) := by
  rw [mainOut_at]
  unfold cols
  rw [cols_at]
  refine Finset.sum_congr rfl fun k _ => congrArg (· * _) ?_
  rw [normed_at]
  refine congrArg (fun x => rms x _ k) (funext fun j => ?_)
  exact stacked_main M X ⟨(r : ℕ) / 4096, by omega⟩ ⟨(r : ℕ) % 4096, by omega⟩ j

/-- The second result: 48 null rows, then the meta tokens' rows. -/
theorem meta_at (X : FVec Ideal S4x4096x2048 .f32) (M : FVec Ideal S16x2048 .f32) (g : FVec Ideal S1x2048 .f32) (W : FVec Ideal S1x2048x8336 .f32)
    (q : Fin 66) (r : Fin 64) (d : Fin 128) :
    metaOut (cols X M g W) (ix3 q r d) = if h : (r : ℕ) < 48 then 0 else ∑ k : Fin 2048,
      rms (fun j => M (ix2 ⟨(r : ℕ) - 48, by omega⟩ j)) (fun j => g (ix2 0 j)) k * wcol W k ((q : ℕ) * 128 + d) := by
  rw [metaOut_at]
  by_cases h : (r : ℕ) < 48
  · rw [dif_pos h, dif_pos h]
  rw [dif_neg h, dif_neg h]
  unfold cols
  rw [cols_at]
  refine Finset.sum_congr rfl fun k _ => congrArg (· * _) ?_
  rw [normed_at]
  refine congrArg (fun x => rms x _ k) (funext fun j => ?_)
  exact stacked_meta M X 0 ⟨(r : ℕ) - 48, by omega⟩ j

/-- The reference's run, its results named through the functions above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = mainOut (cols (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v35) = metaOut (cols (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceInIdeal.Meaning

end
-- ==== Proof.InBlock.lean ====
/- The input projection's kernel body, read at an index: what the blocks it stores hold, from the blocks it reads. -/
module

public import proofs.«01_k».proof.Proof.InRef
public import proofs.«01_k».proof.Proof.InSlabs
public import Idealize.ShloMosaic.Lib.Pointwise
public import Idealize.ShloMosaic.Lib.Pipeline.ValueKit

@[expose] public section

set_option maxRecDepth 16384

noncomputable section

namespace Cert.KernelInIdeal.Meaning

open Cert.KernelInIdeal Cert.KernelInIdeal.Gen Idealize.ShloMosaic Idealize.ShloMosaic.TcCoe Idealize.SL.Sem
open Idealize.ShloMosaic.Pipeline (Dat)
open Cert.ReferenceInIdeal.Meaning (rms wcol)

/-- The normalised rows of a block of tokens. -/
theorem rows_at (x : Vec Ideal S1024x2048 .f32) (g : Vec Ideal S1x2048 .f32) (r : Fin 1024) (k : Fin 2048) :
    k0_pay1 x g (ix2 r k) = rms (fun j => x (ix2 r j)) (fun j => g (ix2 0 j)) k := by
  pointwise [k0_pay1, rms]

/-- The normalised meta rows. -/
theorem metaRows_at (x : Vec Ideal S64x2048 .f32) (g : Vec Ideal S1x2048 .f32) (r : Fin 64) (k : Fin 2048) :
    k0_pay2 x g (ix2 r k) = rms (fun j => x (ix2 r j)) (fun j => g (ix2 0 j)) k := by
  pointwise [k0_pay2, rms]

/-- The block's product: each row of tokens against each row of the weight. -/
theorem product_at (u : Vec Ideal S1024x2048 .bf16) (w : Vec Ideal S768x2048 .bf16) (r : Fin 1024) (o : Fin 768) :
    k0_pay17 u w (ix2 r o) = ∑ k : Fin 2048, (show EReal from u (ix2 r k)) * (show EReal from w (ix2 o k)) := by
  pointwise [k0_pay17]

/-- The same of the meta rows. -/
theorem metaProduct_at (u : Vec Ideal S64x2048 .bf16) (w : Vec Ideal S768x2048 .bf16) (r : Fin 64) (o : Fin 768) :
    k0_pay3 u w (ix2 r o) = ∑ k : Fin 2048, (show EReal from u (ix2 r k)) * (show EReal from w (ix2 o k)) := by
  pointwise [k0_pay3]

/-- Slab `q` of the stored block holds the product's columns from `128 q` on. -/
theorem slabs_at (u : Vec Ideal S1024x2048 .bf16) (w : Vec Ideal S768x2048 .bf16) (q : Fin 6) (r : Fin 1024) (d : Fin 128) :
    View.canon (slabs u w) (ix3 q r d) = k0_pay17 u w (ix2 r ⟨(q : ℕ) * 128 + d, by omega⟩) := by
  unfold slabs
  canon_tiles x h
  · idx_vars x
    have e0 : (q : ℕ) = 5 := by have h : (q : ℕ) = 5 + (x0 : ℕ) := h0; omega
    have e1 : (r : ℕ) = x1 := h1
    have e2 : (d : ℕ) = x2 := h2
    pointwise [k0_pay23]
    exact congrArg (k0_pay17 u w) ((ix2_inj ..).2 ⟨Fin.ext (by omega), Fin.ext (by dsimp only <;> omega)⟩)
  · idx_vars x
    have e0 : (q : ℕ) = 4 := by have h : (q : ℕ) = 4 + (x0 : ℕ) := h0; omega
    have e1 : (r : ℕ) = x1 := h1
    have e2 : (d : ℕ) = x2 := h2
    pointwise [k0_pay22]
    exact congrArg (k0_pay17 u w) ((ix2_inj ..).2 ⟨Fin.ext (by omega), Fin.ext (by dsimp only <;> omega)⟩)
  · idx_vars x
    have e0 : (q : ℕ) = 3 := by have h : (q : ℕ) = 3 + (x0 : ℕ) := h0; omega
    have e1 : (r : ℕ) = x1 := h1
    have e2 : (d : ℕ) = x2 := h2
    pointwise [k0_pay21]
    exact congrArg (k0_pay17 u w) ((ix2_inj ..).2 ⟨Fin.ext (by omega), Fin.ext (by dsimp only <;> omega)⟩)
  · idx_vars x
    have e0 : (q : ℕ) = 2 := by have h : (q : ℕ) = 2 + (x0 : ℕ) := h0; omega
    have e1 : (r : ℕ) = x1 := h1
    have e2 : (d : ℕ) = x2 := h2
    pointwise [k0_pay20]
    exact congrArg (k0_pay17 u w) ((ix2_inj ..).2 ⟨Fin.ext (by omega), Fin.ext (by dsimp only <;> omega)⟩)
  · idx_vars x
    have e0 : (q : ℕ) = 1 := by have h : (q : ℕ) = 1 + (x0 : ℕ) := h0; omega
    have e1 : (r : ℕ) = x1 := h1
    have e2 : (d : ℕ) = x2 := h2
    pointwise [k0_pay19]
    exact congrArg (k0_pay17 u w) ((ix2_inj ..).2 ⟨Fin.ext (by omega), Fin.ext (by dsimp only <;> omega)⟩)
  · idx_vars x
    have e0 : (q : ℕ) = 0 := by
      have h : (q : ℕ) = x0 := h0
      omega
    have e1 : (r : ℕ) = x1 := h1
    have e2 : (d : ℕ) = x2 := h2
    pointwise [k0_pay18]
    exact congrArg (k0_pay17 u w) ((ix2_inj ..).2 ⟨Fin.ext (by omega), Fin.ext (by dsimp only <;> omega)⟩)

/-- The same of the meta rows. -/
theorem metaSlabs_at (u : Vec Ideal S64x2048 .bf16) (w : Vec Ideal S768x2048 .bf16) (q : Fin 6) (r : Fin 64) (d : Fin 128) :
    View.canon (metaSlabs u w) (ix3 q r d) = k0_pay3 u w (ix2 r ⟨(q : ℕ) * 128 + d, by omega⟩) := by
  unfold metaSlabs
  canon_tiles x h
  · idx_vars x
    have e0 : (q : ℕ) = 5 := by have h : (q : ℕ) = 5 + (x0 : ℕ) := h0; omega
    have e1 : (r : ℕ) = x1 := h1
    have e2 : (d : ℕ) = x2 := h2
    pointwise [k0_pay9]
    exact congrArg (k0_pay3 u w) ((ix2_inj ..).2 ⟨Fin.ext (by omega), Fin.ext (by dsimp only <;> omega)⟩)
  · idx_vars x
    have e0 : (q : ℕ) = 4 := by have h : (q : ℕ) = 4 + (x0 : ℕ) := h0; omega
    have e1 : (r : ℕ) = x1 := h1
    have e2 : (d : ℕ) = x2 := h2
    pointwise [k0_pay8]
    exact congrArg (k0_pay3 u w) ((ix2_inj ..).2 ⟨Fin.ext (by omega), Fin.ext (by dsimp only <;> omega)⟩)
  · idx_vars x
    have e0 : (q : ℕ) = 3 := by have h : (q : ℕ) = 3 + (x0 : ℕ) := h0; omega
    have e1 : (r : ℕ) = x1 := h1
    have e2 : (d : ℕ) = x2 := h2
    pointwise [k0_pay7]
    exact congrArg (k0_pay3 u w) ((ix2_inj ..).2 ⟨Fin.ext (by omega), Fin.ext (by dsimp only <;> omega)⟩)
  · idx_vars x
    have e0 : (q : ℕ) = 2 := by have h : (q : ℕ) = 2 + (x0 : ℕ) := h0; omega
    have e1 : (r : ℕ) = x1 := h1
    have e2 : (d : ℕ) = x2 := h2
    pointwise [k0_pay6]
    exact congrArg (k0_pay3 u w) ((ix2_inj ..).2 ⟨Fin.ext (by omega), Fin.ext (by dsimp only <;> omega)⟩)
  · idx_vars x
    have e0 : (q : ℕ) = 1 := by have h : (q : ℕ) = 1 + (x0 : ℕ) := h0; omega
    have e1 : (r : ℕ) = x1 := h1
    have e2 : (d : ℕ) = x2 := h2
    pointwise [k0_pay5]
    exact congrArg (k0_pay3 u w) ((ix2_inj ..).2 ⟨Fin.ext (by omega), Fin.ext (by dsimp only <;> omega)⟩)
  · idx_vars x
    have e0 : (q : ℕ) = 0 := by
      have h : (q : ℕ) = x0 := h0
      omega
    have e1 : (r : ℕ) = x1 := h1
    have e2 : (d : ℕ) = x2 := h2
    pointwise [k0_pay4]
    exact congrArg (k0_pay3 u w) ((ix2_inj ..).2 ⟨Fin.ext (by omega), Fin.ext (by dsimp only <;> omega)⟩)

end Cert.KernelInIdeal.Meaning

end
-- ==== Proof.InArrays.lean ====
/- The input projection: what each block the kernel reads holds, in terms of the call's arguments. -/
module

public import proofs.«01_k».proof.Proof.InRun
public import proofs.«01_k».proof.Proof.InBlock
public import proofs.«01_k».proof.Defs

@[expose] public section

set_option maxRecDepth 16384

noncomputable section

namespace Cert.KernelInIdeal.Meaning

open Cert.KernelInIdeal Cert.KernelInIdeal.Gen Idealize.ShloMosaic Idealize.ShloMosaic.TcCoe Idealize.SL.Sem
open Idealize.ShloMosaic.Pipeline (Dat)
open Cert.ReferenceInIdeal.Meaning (rms wcol)

variable (m : (ℓ : Loc nD τ sig) → Buf (Elt Ideal) ℓ)

/-- Where each window's block sits at grid point `t`. -/
theorem idx : ∀ t : Fin cfg0.N, win0_0.index t = ![t.val / 11, 0] ∧ win0_1.index t = ![0, 0] ∧ win0_2.index t = ![0, 0]
    ∧ win0_3.index t = ![min (t.val % 11) 8, 0] ∧ win0_4.index t = ![t.val % 11 - 9, 0]
    ∧ win0_5.index t = ![t.val % 11, t.val / 11, 0] ∧ win0_6.index t = ![min t.val 10, 0, 0] :=
  (by decide +kernel : ∀ t : Fin grid0.N, _)

/-- Row `1024 (t / 11) + r` of the 16384 rows: batch element and position. -/
abbrev bOf (t : Fin cfg0.N) (r : Fin 1024) : Fin 4 := ⟨(t.val / 11 * 1024 + r) / 4096, by have := point_lt t; omega⟩
abbrev sOf (t : Fin cfg0.N) (r : Fin 1024) : Fin 4096 := ⟨(t.val / 11 * 1024 + r) % 4096, by omega⟩

/-- The tokens' block at point `t`. -/
theorem blk0 (c : Dev nD) (t : Fin cfg0.N) (r : Fin 1024) (k : Fin 2048) :
    iblk m c 0 t (ix2 r k) = m ((c : Thread nD τ).loc main_arg0) (ix3 (bOf t r) (sOf t r) k) := by
  blk_simp [iblk]
  entry_read
  pointwise
  blk_ext [idx t]

/-- The rows the launch stages for the meta tokens: 48 null rows, then the meta tokens. -/
theorem padded_at (c : Dev nD) (r : Fin 64) (k : Fin 2048) :
    V m c main_v11 (ix2 r k) = if h : (r : ℕ) < 48 then (0 : EReal) else m ((c : Thread nD τ).loc main_arg1) (ix2 ⟨(r : ℕ) - 48, by omega⟩ k) := by
  entry_read
  pointwise

/-- They are staged whole. -/
theorem blk1 (c : Dev nD) (t : Fin cfg0.N) (r : Fin 64) (k : Fin 2048) :
    iblk m c 1 t (ix2 r k) = V m c main_v11 (ix2 r k) := by
  blk_simp [iblk]
  blk_ext [idx t]

/-- The norm's weight is staged whole. -/
theorem blk2 (c : Dev nD) (t : Fin cfg0.N) (k : Fin 2048) :
    iblk m c 2 t (ix2 0 k) = m ((c : Thread nD τ).loc main_arg2) (ix2 0 k) := by
  blk_simp [iblk]
  entry_read
  pointwise
  blk_ext [idx t]

/-- The left weight's block: rows from `768 min (t % 11) 8` on of the transposed weight. -/
theorem blk3 (c : Dev nD) (t : Fin cfg0.N) (o : Fin 768) (k : Fin 2048) :
    X0_3 m c t (ix2 o k) = m ((c : Thread nD τ).loc main_arg3) (ix3 0 k ⟨min (t.val % 11) 8 * 768 + o, by omega⟩) := by
  unfold X0_3 Pipeline.Window.fill
  rw [dif_pos (moved0_3 t _)]
  blk_simp [iblk]
  entry_read
  pointwise
  blk_ext [idx t]

/-- Four runs of weight rows one after another. -/
def stack (a : FVec Ideal S384x2048 .bf16) (b : FVec Ideal S1024x2048 .bf16) (c : FVec Ideal S16x2048 .bf16) (d : FVec Ideal S112x2048 .bf16) : FVec Ideal S1536x2048 .bf16 :=
  concatenate S1536x2048 0 [⟨S384x2048, a⟩, ⟨S1024x2048, b⟩, ⟨S16x2048, c⟩, ⟨S112x2048, d⟩] concatenates_S384x2048_S1024x2048_S16x2048_S112x2048_S1536x2048_d0

/-- Equal runs stack to equal rows. -/
theorem stack_congr {a a' : FVec Ideal S384x2048 .bf16} {b b' : FVec Ideal S1024x2048 .bf16} {c c' : FVec Ideal S16x2048 .bf16} {d d' : FVec Ideal S112x2048 .bf16}
    (ha : a = a') (hb : b = b') (hc : c = c') (hd : d = d') : stack a b c d = stack a' b' c' d' := by
  rw [ha, hb, hc, hd]

/-- The tail of a weight's rows in the mixers' order, with null rows at its end. -/
def tail (T : FVec Ideal S8336x2048 .bf16) : FVec Ideal S1536x2048 .bf16 :=
  stack (extractStridedSlice S384x2048 ![6912, 0] T slices_S8336x2048_S384x2048_6912_0) (extractStridedSlice S1024x2048 ![7312, 0] T slices_S8336x2048_S1024x2048_7312_0)
    (extractStridedSlice S16x2048 ![7296, 0] T slices_S8336x2048_S16x2048_7296_0) (broadcastInDim S112x2048 ![] bcast_S_S112x2048 (constant S_ .bf16 0x0000#16))

/-- Each row of that tail, by the run it lies in. -/
theorem tail_rows (T : FVec Ideal S8336x2048 .bf16) (o : Fin 1536) (k : Fin 2048) :
    tail T (ix2 o k) = if h : (o : ℕ) < 384 then T (ix2 ⟨6912 + o, by omega⟩ k)
      else if h : (o : ℕ) < 1408 then T (ix2 ⟨7312 + (o - 384), by omega⟩ k)
      else if h : (o : ℕ) < 1424 then T (ix2 ⟨7296 + (o - 1408), by omega⟩ k)
      else (0 : EReal) := by
  pointwise [tail, stack]
  by_cases a : (o : ℕ) < 384
  · rw [dif_pos a, dif_pos a]
  rw [dif_neg a, dif_neg a]
  by_cases b : (o : ℕ) < 1408
  · rw [dif_pos b, dif_pos (show (o : ℕ) - 384 < 1024 by omega)]
  rw [dif_neg b, dif_neg (show ¬ (o : ℕ) - 384 < 1024 by omega)]
  by_cases d : (o : ℕ) < 1424
  · rw [dif_pos d, dif_pos (show (o : ℕ) - 384 - 1024 < 16 by omega)]
    exact congrArg T ((ix2_inj ..).2 ⟨Fin.ext (by dsimp only <;> omega), rfl⟩)
  rw [dif_neg d, dif_neg (show ¬ (o : ℕ) - 384 - 1024 < 16 by omega)]

/-- The transposed weight. -/
def turned (W : FVec Ideal S1x2048x8336 .f32) : FVec Ideal S8336x2048 .bf16 :=
  truncf .bf16 (transpose S8336x2048 [1, 0] (shapeCast _ W shapeCasts_S1x2048x8336_S2048x8336) transposes_S2048x8336_S8336x2048_1_0) bitsLt_bf16_f32

/-- Its rows are the weight's columns. -/
theorem turned_at (W : FVec Ideal S1x2048x8336 .f32) (o : Fin 8336) (k : Fin 2048) : turned W (ix2 o k) = W (ix3 0 k o) := by
  pointwise [turned]

set_option maxHeartbeats 1600000 in
/-- The reordered tail of the transposed weight, with its null rows. -/
theorem tail_at (c : Dev nD) (o : Fin 1536) (k : Fin 2048) :
    V m c main_v7 (ix2 o k) = if h : (o : ℕ) < 384 then m ((c : Thread nD τ).loc main_arg3) (ix3 0 k ⟨6912 + o, by omega⟩)
      else if h : (o : ℕ) < 1408 then m ((c : Thread nD τ).loc main_arg3) (ix3 0 k ⟨7312 + (o - 384), by omega⟩)
      else if h : (o : ℕ) < 1424 then m ((c : Thread nD τ).loc main_arg3) (ix3 0 k ⟨7296 + (o - 1408), by omega⟩)
      else (0 : EReal) := by
  refine Eq.trans (b := tail (turned (m ((c : Thread nD τ).loc main_arg3))) (ix2 o k)) ?_ ?_
  · refine congrFun (?_ : V m c main_v7 = _) _
    unfold V
    after_results
    refine stack_congr ?_ ?_ ?_ ?_
    · dsimp only [Matrix.cons_val]
      after_results_simp
      rfl
    · dsimp only [Matrix.cons_val]
      after_results_simp
      rfl
    · dsimp only [Matrix.cons_val]
      after_results_simp
      rfl
    · dsimp only [Matrix.cons_val]
      after_results_simp
  · rw [tail_rows]
    simp only [turned_at]

/-- The right weight's block: rows from `768 (t % 11 - 9)` on of the reordered tail. -/
theorem blk4 (c : Dev nD) (t : Fin cfg0.N) (o : Fin 768) (k : Fin 2048) :
    iblk m c 4 t (ix2 o k) = V m c main_v7 (ix2 ⟨(t.val % 11 - 9) * 768 + o, by omega⟩ k) := by
  blk_simp [iblk]
  blk_ext [idx t]

end Cert.KernelInIdeal.Meaning

end
-- ==== Proof.InValue.lean ====
/- The input projection: after the kernel's run its two result arrays are the reference's results, and with that the value claim. -/
module

public import proofs.«01_k».proof.Proof.InArrays

@[expose] public section

set_option maxRecDepth 16384

noncomputable section

namespace Cert.KernelInIdeal.Meaning

open Cert.KernelInIdeal Cert.KernelInIdeal.Gen Idealize.ShloMosaic Idealize.ShloMosaic.TcCoe Idealize.SL.Sem
open Idealize.ShloMosaic.Pipeline (Dat)
open Cert.ReferenceInIdeal.Meaning (rms wcol cols mainOut metaOut main_at meta_at)

variable (m : (ℓ : Loc nD τ sig) → Buf (Elt Ideal) ℓ)

/-- The reference's reordered columns over the kernel's arguments. -/
def wanted (c : Dev nD) : FVec Ideal Cert.ReferenceInIdeal.S4x4112x8448 .f32 :=
  cols (m ((c : Thread nD τ).loc main_arg0)) (m ((c : Thread nD τ).loc main_arg1)) (m ((c : Thread nD τ).loc main_arg2)) (m ((c : Thread nD τ).loc main_arg3))

/-- Whichever weight block point `t` multiplies by, it holds the reordered weight's columns from `768 (t % 11)` on. -/
theorem weight_at (c : Dev nD) (t : Fin cfg0.N) (o : Fin 768) (k : Fin 2048) :
    weightAt m c t (ix2 o k) = wcol (m ((c : Thread nD τ).loc main_arg3)) k (t.val % 11 * 768 + o) := by
  have ht : t.val % 11 < 11 := Nat.mod_lt _ (by omega)
  unfold weightAt wcol
  by_cases h : t.val % 11 < 9
  · rw [if_pos h, dif_pos (show t.val % 11 * 768 + (o : ℕ) < 7296 by omega)]
    refine (blk3 m c t o k).trans (congrArg (m ((c : Thread nD τ).loc main_arg3)) ((ix3_inj ..).2 ⟨rfl, rfl, Fin.ext ?_⟩))
    show min (t.val % 11) 8 * 768 + (o : ℕ) = t.val % 11 * 768 + o
    omega
  rw [if_neg h]
  refine (blk4 m c t o k).trans ((tail_at m c _ k).trans ?_)
  by_cases h1 : t.val % 11 * 768 + (o : ℕ) < 7296
  · rw [dif_pos h1, dif_pos (show (t.val % 11 - 9) * 768 + (o : ℕ) < 384 by omega)]
    refine congrArg (m ((c : Thread nD τ).loc main_arg3)) ((ix3_inj ..).2 ⟨rfl, rfl, Fin.ext ?_⟩)
    show 6912 + ((t.val % 11 - 9) * 768 + (o : ℕ)) = t.val % 11 * 768 + o
    omega
  rw [dif_neg h1, dif_neg (show ¬ (t.val % 11 - 9) * 768 + (o : ℕ) < 384 by omega)]
  by_cases h2 : t.val % 11 * 768 + (o : ℕ) < 8320
  · rw [dif_pos h2, dif_pos (show (t.val % 11 - 9) * 768 + (o : ℕ) < 1408 by omega)]
    refine congrArg (m ((c : Thread nD τ).loc main_arg3)) ((ix3_inj ..).2 ⟨rfl, rfl, Fin.ext ?_⟩)
    show 7312 + ((t.val % 11 - 9) * 768 + (o : ℕ) - 384) = t.val % 11 * 768 + o + 16
    omega
  rw [dif_neg h2, dif_neg (show ¬ (t.val % 11 - 9) * 768 + (o : ℕ) < 1408 by omega)]
  by_cases h3 : t.val % 11 * 768 + (o : ℕ) < 8336
  · rw [dif_pos h3, dif_pos (show (t.val % 11 - 9) * 768 + (o : ℕ) < 1424 by omega)]
    refine congrArg (m ((c : Thread nD τ).loc main_arg3)) ((ix3_inj ..).2 ⟨rfl, rfl, Fin.ext ?_⟩)
    show 7296 + ((t.val % 11 - 9) * 768 + (o : ℕ) - 1408) = t.val % 11 * 768 + o - 1024
    omega
  rw [dif_neg h3, dif_neg (show ¬ (t.val % 11 - 9) * 768 + (o : ℕ) < 1424 by omega)]

/-- The rows point `t` multiplies are the normalised tokens its block covers. -/
theorem tokens_at (c : Dev nD) (t : Fin cfg0.N) (r : Fin 1024) (k : Fin 2048) :
    rowsAt m c t (ix2 r k) = rms (fun j => m ((c : Thread nD τ).loc main_arg0) (ix3 (bOf t r) (sOf t r) j)) (fun j => m ((c : Thread nD τ).loc main_arg2) (ix2 0 j)) k := by
  have hb : bOf (rowHead t) r = bOf t r := Fin.ext (by
    show (t.val / 11 * 11 / 11 * 1024 + (r : ℕ)) / 4096 = (t.val / 11 * 1024 + (r : ℕ)) / 4096
    omega)
  have hs : sOf (rowHead t) r = sOf t r := Fin.ext (by
    show (t.val / 11 * 11 / 11 * 1024 + (r : ℕ)) % 4096 = (t.val / 11 * 1024 + (r : ℕ)) % 4096
    omega)
  unfold rowsAt
  refine (rows_at _ _ r k).trans ?_
  refine congrArg₂ (fun x g => rms x g k) (funext fun j => ?_) (funext fun j => blk2 m c _ j)
  refine (blk0 m c (rowHead t) r j).trans ?_
  rw [hb, hs]

/-- What point `t` leaves at slab `q`, row `r`, column `d` of its block is the reference's first result where the block sits. -/
theorem point (c : Dev nD) (t : Fin cfg0.N) (q : Fin 6) (r : Fin 1024) (d : Fin 128) :
    blockAt m c t (ix3 q r d) = mainOut (wanted m c) (ix3 ⟨t.val % 11 * 6 + q, by omega⟩ ⟨t.val / 11 * 1024 + r, by have := point_lt t; omega⟩ d) := by
  unfold blockAt wanted
  rw [main_at]
  refine (slabs_at _ _ q r d).trans ((product_at _ _ r _).trans (Finset.sum_congr rfl fun k _ => Ideal.mul_congr (tokens_at m c t r k) ?_))
  refine (weight_at m c t _ k).trans (congrArg (wcol _ k) ?_)
  show t.val % 11 * 768 + ((q : ℕ) * 128 + d) = (t.val % 11 * 6 + q) * 128 + d
  omega

/-- A null row stays null under the norm. -/
theorem rms_null (g : Fin 2048 → EReal) (k : Fin 2048) : rms (fun _ => 0) g k = 0 := by
  unfold rms
  rw [zero_mul, zero_mul]

/-- The same of the meta rows' block and the second result. -/
theorem metaPoint_at (c : Dev nD) (t : Fin cfg0.N) (q : Fin 6) (r : Fin 64) (d : Fin 128) :
    metaBlockAt m c t (ix3 q r d) = metaOut (wanted m c) (ix3 ⟨min t.val 10 * 6 + q, by omega⟩ r d) := by
  unfold metaBlockAt wanted
  rw [meta_at]
  refine (metaSlabs_at _ _ q r d).trans ((metaProduct_at _ _ r _).trans ?_)
  unfold metaRows
  by_cases h : (r : ℕ) < 48
  · rw [dif_pos h]
    refine Finset.sum_eq_zero fun k _ => ?_
    refine (Ideal.mul_congr ((metaRows_at _ _ r k).trans ?_) rfl).trans (zero_mul _)
    refine (congrArg (fun x => rms x _ k) (funext fun j => ?_)).trans (rms_null _ k)
    exact (blk1 m c _ r j).trans ((padded_at m c r j).trans (dif_pos h))
  rw [dif_neg h]
  refine Finset.sum_congr rfl fun k _ => Ideal.mul_congr ((metaRows_at _ _ r k).trans ?_) ?_
  · refine congrArg₂ (fun x g => rms x g k) (funext fun j => ?_) (funext fun j => blk2 m c _ j)
    exact (blk1 m c _ r j).trans ((padded_at m c r j).trans (dif_neg h))
  · refine (weight_at m c _ _ k).trans (congrArg (wcol _ k) ?_)
    show min t.val 10 % 11 * 768 + ((q : ℕ) * 128 + d) = (min t.val 10 * 6 + q) * 128 + d
    omega

/-- After the run the kernel's first result array is the reference's first result, -/
theorem final (c : Dev nD) : (dats m 0 c).arrAt 5 cfg0.N = mainOut (wanted m c) := by
  refine (dats m 0 c).arrAt_eq_of_covers 5 _ (by decide +kernel) fun t _ y => ?_
  blk_simp
  rw [after_o]
  idx_vars y
  refine (point m c t y0 y1 y2).trans ?_
  blk_ext [idx t]

/-- and the second the second. -/
theorem metaFinal (c : Dev nD) : (dats m 0 c).arrAt 6 cfg0.N = metaOut (wanted m c) := by
  refine (dats m 0 c).arrAt_eq_of_covers 6 _ (by decide +kernel) fun t _ y => ?_
  blk_simp
  rw [after_om]
  idx_vars y
  refine (metaPoint_at m c t y0 y1 y2).trans ?_
  blk_ext [idx t]

/-- The kernel and the reference leave the same results from the same arguments. -/
theorem algebraic : Cert.algebraic_KernelInIdeal_ReferenceInIdeal := by
  intro m g m' g' _ hagree
  refine ⟨fun c => mainOut (wanted m c), fun c => metaOut (wanted m c), ?_, ?_⟩
  · refine (θ_run _ _ _).mono (fun r h c => ⟨((h.1.1 c).1 5).trans (final m c), ((h.1.1 c).1 6).trans (metaFinal m c), h.2.1 c⟩)
      (θ_run_and (run_quiet m g) (frame m g))
  · refine (θ_run _ _ _).mono (fun r h c => ⟨(h c).1.trans ?_, (h c).2.1.trans ?_, (h c).2.2⟩) (ReferenceInIdeal.Meaning.run m' g')
    all_goals
      obtain ⟨h0, h1, h2, h3⟩ := hagree c
      rw [h0, h1, h2, h3]
      rfl

end Cert.KernelInIdeal.Meaning

end
-- ==== Proof.MetaRun.lean ====
/- The run of the mixers' call over the meta tokens (KernelMetaIdeal), for values of any kind: what each result block holds
   after the body, the body's triple at each grid point, the pipeline's run, and the frame. It follows the frame module
   written for this program, which does not compile under the usual bound on elaboration steps. The two programs of this call have the
   same text, so Proof.lean takes the frame of the other one from here as well. -/
module

public import proofs.«01_k».proof.Proof.Gen.KernelMetaIdeal.Frame.RunA
public import Idealize.ShloMosaic.Lib.Claim

@[expose] public section

-- the covering checks recurse once per entry of a long axis
set_option maxRecDepth 16384

noncomputable section

namespace Cert.KernelMetaIdeal.Meaning

open Cert.KernelMetaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's stores into window 18 fill its whole block. -/
theorem cover0_A_18 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S8x1x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).1 S1x1x64x128.size (by sl_kernel_rfl) y

/-- What those stores leave in window 18's block. -/
def out0_A_18 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S8x1x64x128 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).1)

/-- The body's stores into window 19 fill its whole block. -/
theorem cover0_A_19 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S8x1x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.1 S1x1x64x128.size (by sl_kernel_rfl) y

/-- What those stores leave in window 19's block. -/
def out0_A_19 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S8x1x64x128 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.1)

/-- The body's stores into window 20 fill its whole block. -/
theorem cover0_A_20 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S25x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.1 S25x8x128.size (by sl_kernel_rfl) y

/-- What those stores leave in window 20's block. -/
def out0_A_20 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S25x8x128 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.1)

/-- The body's stores into window 21 fill its whole block. -/
theorem cover0_A_21 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S8x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.1 S8x128x128.size (by sl_kernel_rfl) y

/-- What those stores leave in window 21's block. -/
def out0_A_21 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S8x128x128 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.1)

/-- The body's stores into window 22 fill its whole block. -/
theorem cover0_A_22 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S24x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.1 S24x8x128.size (by sl_kernel_rfl) y

/-- What those stores leave in window 22's block. -/
def out0_A_22 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S24x8x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.1)

/-- The body's stores into window 23 fill its whole block. -/
theorem cover0_A_23 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) (y : S8x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.2.1 S8x128x128.size (by sl_kernel_rfl) y

/-- What those stores leave in window 23's block. -/
def out0_A_23 (c : Dev nD) (i : grid0.Coords) (arg2 : Memref sig .tc .vmem S66x1x64x128 .f32) (harg2 : arg2.IsWhole) (arg3 : Memref sig .tc .vmem S25x1x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S8x1x128 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S8x1x128 .f32) (harg9 : arg9.IsWhole) (arg10 : Memref sig .tc .vmem S8x1x128 .f32) (harg10 : arg10.IsWhole) (arg11 : Memref sig .tc .vmem S128x2048 .bf16) (harg11 : arg11.IsWhole) (arg12 : Memref sig .tc .vmem S4x24x1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S25x8x128 .f32) (harg16 : arg16.IsWhole) (arg17 : Memref sig .tc .vmem S8x128x128 .f32) (harg17 : arg17.IsWhole) (arg18 : Memref sig .tc .vmem S24x8x128 .f32) (harg18 : arg18.IsWhole) (arg19 : Memref sig .tc .vmem S8x128x128 .f32) (harg19 : arg19.IsWhole) (arg20 : Memref sig .tc .vmem S8x1x64x128 .bf16) (harg20 : arg20.IsWhole) (arg21 : Memref sig .tc .vmem S8x1x64x128 .bf16) (harg21 : arg21.IsWhole) (arg22 : Memref sig .tc .vmem S25x8x128 .f32) (harg22 : arg22.IsWhole) (arg23 : Memref sig .tc .vmem S8x128x128 .f32) (harg23 : arg23.IsWhole) (arg24 : Memref sig .tc .vmem S24x8x128 .f32) (harg24 : arg24.IsWhole) (arg25 : Memref sig .tc .vmem S8x128x128 .f32) (harg25 : arg25.IsWhole) (arg26 : Memref sig .tc .vmem S1x8x128x128 .f32) (harg26 : arg26.IsWhole) (arg27 : Memref sig .tc .vmem S1x25x72x128 .f32) (harg27 : arg27.IsWhole) (arg28 : Memref sig .tc .vmem S1x8x128x128 .f32) (harg28 : arg28.IsWhole) (arg29 : Memref sig .tc .vmem S1x24x72x128 .f32) (harg29 : arg29.IsWhole) (hc0 : cond0_0 i) (hc1 : cond0_1 i)
    (x0 : Vec F S66x1x64x128 .f32) (x1 : Vec F S25x1x128 .f32) (x2 : Vec F S8x1x128 .f32) (x3 : Vec F S8x1x128 .f32) (x4 : Vec F S8x1x128 .f32) (x5 : Vec F S8x1x128 .f32) (x6 : Vec F S8x1x128 .f32) (x7 : Vec F S8x1x128 .f32) (x8 : Vec F S8x1x128 .f32) (x9 : Vec F S128x2048 .bf16) (x10 : Vec F S4x24x1x128 .f32) (x11 : Vec F S1x128 .f32) (x12 : Vec F S1x128 .f32) (x13 : Vec F S1x128 .f32) (x14 : Vec F S25x8x128 .f32) (x15 : Vec F S8x128x128 .f32) (x16 : Vec F S24x8x128 .f32) (x17 : Vec F S8x128x128 .f32) : Vec F S8x128x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17).2.2.2.2.2.1)

/-! ## What the outputs hold after each point -/

/-- The six results' staging buffers after the body has run at grid point `t`, in window order. -/
def outsAt0 (c : Dev nD) (t : Fin cfg0.N) : Vec F S8x1x64x128 .bf16 × Vec F S8x1x64x128 .bf16 × Vec F S25x8x128 .f32 × Vec F S8x128x128 .f32 × Vec F S24x8x128 .f32 × Vec F S8x128x128 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- What the pipeline proof is told: the arrays as the call finds them; after the body each input buffer still at its
    block and each result buffer at `outsAt0`; between points only the scratch memory and the generator register, at
    whatever they hold; no transfer outstanding. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2
    | ⟨_ + 24, h⟩ => absurd h (Nat.not_lt.2 (Nat.le_add_left _ _))
  Φ _ := Pipeline.ΦA spec0 c
  q _ := fullShare
  owed _ := 0

/-- The arrays the pipeline proof starts from are the ones the call finds. -/
theorem A_eq (c : Dev nD) (w : Fin cfg0.W) : (dats m 0 c).A w = V m c (Pipeline.arrRef spec0 w) := by
  dsimp only [dats]

/-- Window by window, what the body leaves: input 0 still at its block. -/
theorem after0_0 (c : Dev nD) (t : Fin cfg0.N) : (dats m 0 c).after 0 t = iblk m c 0 t := by dsimp only [dats]
/-- What the body leaves in window 1: the block it was given. -/
theorem after0_1 (c : Dev nD) (t : Fin cfg0.N) : (dats m 0 c).after 1 t = iblk m c 1 t := by dsimp only [dats]
/-- What the body leaves in window 2: the block it was given. -/
theorem after0_2 (c : Dev nD) (t : Fin cfg0.N) : (dats m 0 c).after 2 t = iblk m c 2 t := by dsimp only [dats]
/-- What the body leaves in window 3: the block it was given. -/
theorem after0_3 (c : Dev nD) (t : Fin cfg0.N) : (dats m 0 c).after 3 t = iblk m c 3 t := by dsimp only [dats]
/-- What the body leaves in window 4: the block it was given. -/
theorem after0_4 (c : Dev nD) (t : Fin cfg0.N) : (dats m 0 c).after 4 t = iblk m c 4 t := by dsimp only [dats]
/-- What the body leaves in window 5: the block it was given. -/
theorem after0_5 (c : Dev nD) (t : Fin cfg0.N) : (dats m 0 c).after 5 t = iblk m c 5 t := by dsimp only [dats]
/-- What the body leaves in window 6: the block it was given. -/
theorem after0_6 (c : Dev nD) (t : Fin cfg0.N) : (dats m 0 c).after 6 t = iblk m c 6 t := by dsimp only [dats]
/-- What the body leaves in window 7: the block it was given. -/
theorem after0_7 (c : Dev nD) (t : Fin cfg0.N) : (dats m 0 c).after 7 t = iblk m c 7 t := by dsimp only [dats]
/-- What the body leaves in window 8: the block it was given. -/
theorem after0_8 (c : Dev nD) (t : Fin cfg0.N) : (dats m 0 c).after 8 t = iblk m c 8 t := by dsimp only [dats]
/-- What the body leaves in window 9: the block it was given. -/
theorem after0_9 (c : Dev nD) (t : Fin cfg0.N) : (dats m 0 c).after 9 t = iblk m c 9 t := by dsimp only [dats]
/-- What the body leaves in window 10: the block it was given. -/
theorem after0_10 (c : Dev nD) (t : Fin cfg0.N) : (dats m 0 c).after 10 t = iblk m c 10 t := by dsimp only [dats]
/-- What the body leaves in window 11: the block it was given. -/
theorem after0_11 (c : Dev nD) (t : Fin cfg0.N) : (dats m 0 c).after 11 t = iblk m c 11 t := by dsimp only [dats]
/-- What the body leaves in window 12: the block it was given. -/
theorem after0_12 (c : Dev nD) (t : Fin cfg0.N) : (dats m 0 c).after 12 t = iblk m c 12 t := by dsimp only [dats]
/-- What the body leaves in window 13: the block it was given. -/
theorem after0_13 (c : Dev nD) (t : Fin cfg0.N) : (dats m 0 c).after 13 t = iblk m c 13 t := by dsimp only [dats]
/-- What the body leaves in window 14: the block it was given. -/
theorem after0_14 (c : Dev nD) (t : Fin cfg0.N) : (dats m 0 c).after 14 t = iblk m c 14 t := by dsimp only [dats]
/-- What the body leaves in window 15: the block it was given. -/
theorem after0_15 (c : Dev nD) (t : Fin cfg0.N) : (dats m 0 c).after 15 t = iblk m c 15 t := by dsimp only [dats]
/-- What the body leaves in window 16: the block it was given. -/
theorem after0_16 (c : Dev nD) (t : Fin cfg0.N) : (dats m 0 c).after 16 t = iblk m c 16 t := by dsimp only [dats]
/-- What the body leaves in window 17: the block it was given. -/
theorem after0_17 (c : Dev nD) (t : Fin cfg0.N) : (dats m 0 c).after 17 t = iblk m c 17 t := by dsimp only [dats]
/-- What the body leaves in window 18: that component of `outsAt0`. -/
theorem after0_18 (c : Dev nD) (t : Fin cfg0.N) : (dats m 0 c).after 18 t = (outsAt0 m c t).1 := by dsimp only [dats]
/-- What the body leaves in window 19: that component of `outsAt0`. -/
theorem after0_19 (c : Dev nD) (t : Fin cfg0.N) : (dats m 0 c).after 19 t = (outsAt0 m c t).2.1 := by dsimp only [dats]
/-- What the body leaves in window 20: that component of `outsAt0`. -/
theorem after0_20 (c : Dev nD) (t : Fin cfg0.N) : (dats m 0 c).after 20 t = (outsAt0 m c t).2.2.1 := by dsimp only [dats]
/-- What the body leaves in window 21: that component of `outsAt0`. -/
theorem after0_21 (c : Dev nD) (t : Fin cfg0.N) : (dats m 0 c).after 21 t = (outsAt0 m c t).2.2.2.1 := by dsimp only [dats]
/-- What the body leaves in window 22: that component of `outsAt0`. -/
theorem after0_22 (c : Dev nD) (t : Fin cfg0.N) : (dats m 0 c).after 22 t = (outsAt0 m c t).2.2.2.2.1 := by dsimp only [dats]
/-- What the body leaves in window 23: that component of `outsAt0`. -/
theorem after0_23 (c : Dev nD) (t : Fin cfg0.N) : (dats m 0 c).after 23 t = (outsAt0 m c t).2.2.2.2.2 := by dsimp only [dats]

/-- Window by window, what the body finds in an input's buffer: that input's block, fetched at this point or earlier. -/
theorem before0_0 (c : Dev nD) (t : Fin cfg0.N) (d) : (dats m 0 c).before 0 t d = iblk m c 0 t :=
  before0_0_of m (dats m 0 c) (A_eq m c 0) (after0_0 m c) t d
/-- What the body finds in the buffer of input 1: its block. -/
theorem before0_1 (c : Dev nD) (t : Fin cfg0.N) (d) : (dats m 0 c).before 1 t d = iblk m c 1 t :=
  before0_1_of m (dats m 0 c) (A_eq m c 1) (after0_1 m c) t d
/-- What the body finds in the buffer of input 2: its block. -/
theorem before0_2 (c : Dev nD) (t : Fin cfg0.N) (d) : (dats m 0 c).before 2 t d = iblk m c 2 t :=
  before0_2_of m (dats m 0 c) (A_eq m c 2) (after0_2 m c) t d
/-- What the body finds in the buffer of input 3: its block. -/
theorem before0_3 (c : Dev nD) (t : Fin cfg0.N) (d) : (dats m 0 c).before 3 t d = iblk m c 3 t :=
  before0_3_of m (dats m 0 c) (A_eq m c 3) (after0_3 m c) t d
/-- What the body finds in the buffer of input 4: its block. -/
theorem before0_4 (c : Dev nD) (t : Fin cfg0.N) (d) : (dats m 0 c).before 4 t d = iblk m c 4 t :=
  before0_4_of m (dats m 0 c) (A_eq m c 4) (after0_4 m c) t d
/-- What the body finds in the buffer of input 5: its block. -/
theorem before0_5 (c : Dev nD) (t : Fin cfg0.N) (d) : (dats m 0 c).before 5 t d = iblk m c 5 t :=
  before0_5_of m (dats m 0 c) (A_eq m c 5) (after0_5 m c) t d
/-- What the body finds in the buffer of input 6: its block. -/
theorem before0_6 (c : Dev nD) (t : Fin cfg0.N) (d) : (dats m 0 c).before 6 t d = iblk m c 6 t :=
  before0_6_of m (dats m 0 c) (A_eq m c 6) (after0_6 m c) t d
/-- What the body finds in the buffer of input 7: its block. -/
theorem before0_7 (c : Dev nD) (t : Fin cfg0.N) (d) : (dats m 0 c).before 7 t d = iblk m c 7 t :=
  before0_7_of m (dats m 0 c) (A_eq m c 7) (after0_7 m c) t d
/-- What the body finds in the buffer of input 8: its block. -/
theorem before0_8 (c : Dev nD) (t : Fin cfg0.N) (d) : (dats m 0 c).before 8 t d = iblk m c 8 t :=
  before0_8_of m (dats m 0 c) (A_eq m c 8) (after0_8 m c) t d
/-- What the body finds in the buffer of input 9: its block. -/
theorem before0_9 (c : Dev nD) (t : Fin cfg0.N) (d) : (dats m 0 c).before 9 t d = iblk m c 9 t :=
  before0_9_of m (dats m 0 c) (A_eq m c 9) (after0_9 m c) t d
/-- What the body finds in the buffer of input 10: its block. -/
theorem before0_10 (c : Dev nD) (t : Fin cfg0.N) (d) : (dats m 0 c).before 10 t d = iblk m c 10 t :=
  before0_10_of m (dats m 0 c) (A_eq m c 10) (after0_10 m c) t d
/-- What the body finds in the buffer of input 11: its block. -/
theorem before0_11 (c : Dev nD) (t : Fin cfg0.N) (d) : (dats m 0 c).before 11 t d = iblk m c 11 t :=
  before0_11_of m (dats m 0 c) (A_eq m c 11) (after0_11 m c) t d
/-- What the body finds in the buffer of input 12: its block. -/
theorem before0_12 (c : Dev nD) (t : Fin cfg0.N) (d) : (dats m 0 c).before 12 t d = iblk m c 12 t :=
  before0_12_of m (dats m 0 c) (A_eq m c 12) (after0_12 m c) t d
/-- What the body finds in the buffer of input 13: its block. -/
theorem before0_13 (c : Dev nD) (t : Fin cfg0.N) (d) : (dats m 0 c).before 13 t d = iblk m c 13 t :=
  before0_13_of m (dats m 0 c) (A_eq m c 13) (after0_13 m c) t d
/-- What the body finds in the buffer of input 14: its block. -/
theorem before0_14 (c : Dev nD) (t : Fin cfg0.N) (d) : (dats m 0 c).before 14 t d = iblk m c 14 t :=
  before0_14_of m (dats m 0 c) (A_eq m c 14) (after0_14 m c) t d
/-- What the body finds in the buffer of input 15: its block. -/
theorem before0_15 (c : Dev nD) (t : Fin cfg0.N) (d) : (dats m 0 c).before 15 t d = iblk m c 15 t :=
  before0_15_of m (dats m 0 c) (A_eq m c 15) (after0_15 m c) t d
/-- What the body finds in the buffer of input 16: its block. -/
theorem before0_16 (c : Dev nD) (t : Fin cfg0.N) (d) : (dats m 0 c).before 16 t d = iblk m c 16 t :=
  before0_16_of m (dats m 0 c) (A_eq m c 16) (after0_16 m c) t d
/-- What the body finds in the buffer of input 17: its block. -/
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is given at point `t`: the scratch memory and one staging buffer per window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body gives back at point `t`: the same scratch memory, and each staging buffer at its stated contents. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 2800000 in
/-- The body, at any point, turns what it is given into what it must give back: the inputs' buffers hold their blocks,
    the whole-body run applies, and its stores cover every result block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20_A t (hcond0_0 t) (hcond0_1 t)], after0_20]
  rw [show (dats m 0 c).leavesExact 21 t = owns (c : Thread nD τ) (ms0_21 t) fullShare ((dats m 0 c).after 21 t) from by
      unfold Dat.leavesExact; rw [liveAt0_21_A t (hcond0_0 t) (hcond0_1 t)], after0_21]
  rw [show (dats m 0 c).leavesExact 22 t = owns (c : Thread nD τ) (ms0_22 t) fullShare ((dats m 0 c).after 22 t) from by
      unfold Dat.leavesExact; rw [liveAt0_22_A t (hcond0_0 t) (hcond0_1 t)], after0_22]
  rw [show (dats m 0 c).leavesExact 23 t = owns (c : Thread nD τ) (ms0_23 t) fullShare ((dats m 0 c).after 23 t) from by
      unfold Dat.leavesExact; rw [liveAt0_23_A t (hcond0_0 t) (hcond0_1 t)], after0_23]
  unfold outsAt0
  unfold out0_A_18 out0_A_19 out0_A_20 out0_A_21 out0_A_22 out0_A_23; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body's entry in the table of procedures, at point `t`'s buffers, is the body's own term. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's triple in the form the pipeline theorem asks for, at every point. Matching the two forms walks through
    all twenty-four windows, so the bound on elaboration steps is raised. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- lets the launch theorem's implicit arguments be found by unfolding
set_option backward.isDefEq.respectTransparency.types false in
/-- The whole call: every weakly fair run ends, with every array as the pipeline computes it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole call, counters left out of the statement. -/
theorem run_main : θ_run defs (onTc (τ := τ) (main (F := F))) (s₀ m ρ) (Pipeline.FramePost cfgs (dats m) 0 (V m)) :=
  (θ_run defs _ _).mono (fun _ h => h.1) (run_main_quiescent m ρ)

/-- After the call the fifteen argument arrays hold what they held before. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame of the meta tokens' mixers, for values of any kind: the call ends, its arguments are unchanged and every
    semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelMetaIdeal.Meaning

end
-- ==== Proof.MetaSame.lean ====
/- The mixers' call over the meta tokens has one text in both readings, so its run over any elements, taken at the bits, is the
   frame of the program as it is read from the bits. -/
module

public import proofs.«01_k».proof.Defs
public import proofs.«01_k».proof.Proof.Gen.KernelMeta
public import proofs.«01_k».proof.Proof.MetaRun

@[expose] public section

set_option maxRecDepth 65536

noncomputable section

namespace Cert.Proof

open Idealize.ShloMosaic Idealize.SL.Sem Cert.KernelMeta

set_option maxHeartbeats 4000000 in
/-- One body table in both readings, -/
theorem meta_bodies : Cert.KernelMeta.defs₀ (F := Bits) = Cert.KernelMetaIdeal.defs₀ (F := Bits) := by
  unfold Cert.KernelMeta.defs₀ Cert.KernelMetaIdeal.defs₀
  refine congrArg Defs.onTc (funext fun l => funext fun a => ?_)
  match l, a with
  | 0, (t, s) => rfl

set_option maxHeartbeats 4000000 in
/-- one table of all it calls, -/
theorem meta_defs : Cert.KernelMeta.defs (F := Bits) = Cert.KernelMetaIdeal.defs (F := Bits) := by
  unfold Cert.KernelMeta.defs Cert.KernelMetaIdeal.defs
  exact congrArg (Pipeline.defs Cert.KernelMetaIdeal.pcfgs) meta_bodies

set_option maxHeartbeats 4000000 in
/-- and so one run for both frames. -/
theorem meta_frame : Cert.quiescent_KernelMeta := fun m ρ _ => by
  rw [meta_defs]
  exact Cert.KernelMetaIdeal.Meaning.frame (F := Bits) m ρ

end Cert.Proof

end
-- ==== Proof.OutRef.lean ====
/- The output projection's reference, read at an index: what `reference_out` leaves at row `r`, column `o` of its result. -/
module

public import proofs.«01_k».proof.Proof.Gen.ReferenceOutIdeal.Run
public import Idealize.ShloMosaic.Lib.Pointwise

@[expose] public section

set_option maxRecDepth 16384

noncomputable section

namespace Cert.ReferenceOutIdeal.Meaning

open Cert.ReferenceOutIdeal Cert.ReferenceOutIdeal.Gen Idealize.ShloMosaic Idealize.ShloMosaic.TcCoe Idealize.SL.Sem

/-- The two mixers' outputs side by side, 8 heads of 128 columns each: what the output projection multiplies. -/
def mixed (A B : FVec Ideal S8x4x4096x128 .bf16) : FVec Ideal S4x4096x2048 .f32 :=
  concatenate S4x4096x2048 2 [⟨S4x4096x1024, (shapeCast _ (transpose S4x4096x8x128 [1, 2, 0, 3] (extf .f32 A bitsLt_bf16_f32) transposes_S8x4x4096x128_S4x4096x8x128_1_2_0_3) shapeCasts_S4x4096x8x128_S4x4096x1024)⟩, ⟨S4x4096x1024, (shapeCast _ (transpose S4x4096x8x128 [1, 2, 0, 3] (extf .f32 B bitsLt_bf16_f32) transposes_S8x4x4096x128_S4x4096x8x128_1_2_0_3) shapeCasts_S4x4096x8x128_S4x4096x1024)⟩] concatenates_S4x4096x1024_S4x4096x1024_S4x4096x2048_d2

/-- The residual stream after the output projection. -/
def resid (A B : FVec Ideal S8x4x4096x128 .bf16) (X : FVec Ideal S4x4096x2048 .f32) (W : FVec Ideal S1x2048x2048 .f32) : FVec Ideal S4x4096x2048 .f32 :=
  addf X (Host.dotGeneral dot_S4x4096x2048_S2048x2048_S4x4096x2048_2_0_01_1_n_n none (mixed A B) (shapeCast _ W shapeCasts_S1x2048x2048_S2048x2048))

/-- The final RMS normalisation of a residual stream, laid out as rows. -/
def normed (H : FVec Ideal S4x4096x2048 .f32) (g : FVec Ideal S2048 .f32) : FVec Ideal S16384x2048 .f32 :=
  shapeCast _ (mulf (mulf H (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf H H) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) shapeCasts_S4x4096x2048_S16384x2048

/-- Column `k` of the mixed row: head `k / 128` of the first mixer for `k < 1024`, of the second from there on. -/
theorem mixed_at (A B : FVec Ideal S8x4x4096x128 .bf16) (b : Fin 4) (s : Fin 4096) (k : Fin 2048) :
    mixed A B (ix3 b s k) = if h : (k : ℕ) < 1024 then A (ix4 ⟨(k : ℕ) / 128, by omega⟩ b s ⟨(k : ℕ) % 128, by omega⟩)
      else B (ix4 ⟨((k : ℕ) - 1024) / 128, by omega⟩ b s ⟨((k : ℕ) - 1024) % 128, by omega⟩) := by
  pointwise [mixed]

/-- The residual row: the input row plus the mixed row times the weight. -/
theorem resid_at (A B : FVec Ideal S8x4x4096x128 .bf16) (X : FVec Ideal S4x4096x2048 .f32) (W : FVec Ideal S1x2048x2048 .f32)
    (b : Fin 4) (s : Fin 4096) (o : Fin 2048) :
    resid A B X W (ix3 b s o) = X (ix3 b s o) + ∑ k : Fin 2048, mixed A B (ix3 b s k) * W (ix3 0 k o) := by
  pointwise [resid]

/-- Row `r` of the result is row `r % 4096` of batch element `r / 4096`, divided by its root mean square, times the weight. -/
theorem normed_at (H : FVec Ideal S4x4096x2048 .f32) (g : FVec Ideal S2048 .f32) (r : Fin 16384) (o : Fin 2048) :
    normed H g (ix2 r o) = H (ix3 ⟨(r : ℕ) / 4096, by omega⟩ ⟨(r : ℕ) % 4096, by omega⟩ o)
      * Ideal.rsqrt (Ideal.div (∑ x : Fin 2048, H (ix3 ⟨(r : ℕ) / 4096, by omega⟩ ⟨(r : ℕ) % 4096, by omega⟩ x) * H (ix3 ⟨(r : ℕ) / 4096, by omega⟩ ⟨(r : ℕ) % 4096, by omega⟩ x))
          (Ideal.ofBits FTy.f32 0x45000000#32) + Ideal.ofBits FTy.f32 0x358637BD#32)
      * g (ix1 o) := by
  pointwise [normed]

/-- The reference's run, its result named through the functions above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = normed (resid (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceOutIdeal.Meaning

end
-- ==== Proof.OutBlock.lean ====
/- The output projection's kernel body, read at an index: what one grid point leaves at row `r`, column `o` of its block. -/
module

public import proofs.«01_k».proof.Proof.Gen.KernelOutIdeal.Skeleton
public import proofs.«01_k».proof.Proof.Gen.KernelOutIdeal.Value
public import Idealize.ShloMosaic.Lib.Pointwise
public import Idealize.ShloMosaic.Lib.Pipeline.ValueKit

@[expose] public section

set_option maxRecDepth 16384

noncomputable section

namespace Cert.KernelOutIdeal.Meaning

open Cert.KernelOutIdeal Cert.KernelOutIdeal.Gen Idealize.ShloMosaic Idealize.ShloMosaic.TcCoe Idealize.SL.Sem
open Idealize.ShloMosaic.Pipeline (Dat)

/-- The 16 slabs of the two mixers' blocks side by side. -/
def mixed (a b : Vec Ideal S8x512x128 .bf16) : FVec Ideal S512x2048 .bf16 :=
  k0_pay1 (k0_pay3 (View.ld a r0_0)) (k0_pay4 (View.ld a r0_1)) (k0_pay5 (View.ld a r0_2)) (k0_pay6 (View.ld a r0_3)) (k0_pay7 (View.ld a r0_4)) (k0_pay8 (View.ld a r0_5)) (k0_pay9 (View.ld a r0_6)) (k0_pay10 (View.ld a r0_7)) (k0_pay11 (View.ld b r0_0)) (k0_pay12 (View.ld b r0_1)) (k0_pay13 (View.ld b r0_2)) (View.ld b r0_3) (View.ld b r0_4) (View.ld b r0_5) (View.ld b r0_6) (View.ld b r0_7)

/-- The 16 slabs, one per head of either mixer. -/
def slab (a b : Vec Ideal S8x512x128 .bf16) : Fin 16 → FVec Ideal S512x128 .bf16 :=
  ![k0_pay3 (View.ld a r0_0), k0_pay4 (View.ld a r0_1), k0_pay5 (View.ld a r0_2), k0_pay6 (View.ld a r0_3), k0_pay7 (View.ld a r0_4), k0_pay8 (View.ld a r0_5), k0_pay9 (View.ld a r0_6), k0_pay10 (View.ld a r0_7), k0_pay11 (View.ld b r0_0), k0_pay12 (View.ld b r0_1), k0_pay13 (View.ld b r0_2), shapeCast S512x128 (View.ld b r0_3) shapeCasts_S1x512x128_S512x128, shapeCast S512x128 (View.ld b r0_4) shapeCasts_S1x512x128_S512x128, shapeCast S512x128 (View.ld b r0_5) shapeCasts_S1x512x128_S512x128, shapeCast S512x128 (View.ld b r0_6) shapeCasts_S1x512x128_S512x128, shapeCast S512x128 (View.ld b r0_7) shapeCasts_S1x512x128_S512x128]

/-- Column `128 q + s` of the concatenation is column `s` of slab `q`. -/
theorem mixed_slab (a b : Vec Ideal S8x512x128 .bf16) (r : Fin 512) (q : Fin 16) (s : Fin 128) :
    mixed a b (ix2 r ⟨(q : ℕ) * 128 + s, by omega⟩) = slab a b q (ix2 r s) := by
  refine (concatenate_ofFn_apply (α := EReal) (t := S512x2048) (s₁ := S512x128) 1 (slab a b)
    concatenates_S512x128_S512x128_S512x128_S512x128_S512x128_S512x128_S512x128_S512x128_S512x128_S512x128_S512x128_S512x128_S512x128_S512x128_S512x128_S512x128_S512x2048_d1
    rfl 128 rfl _ q ?_ (ix2 r s) ?_ ?_)
  · show ((q : ℕ) * 128 + s) / 128 = q
    omega
  · show (s : ℕ) = ((q : ℕ) * 128 + s) % 128
    omega
  · intro d hd
    match d with
    | ⟨0, _⟩ => rfl
    | ⟨1, _⟩ => exact absurd rfl hd

set_option maxHeartbeats 1600000 in
/-- Slab `q` holds head `q` of the first mixer for `q < 8`, head `q - 8` of the second from there on. -/
theorem slab_at (a b : Vec Ideal S8x512x128 .bf16) (r : Fin 512) (q : Fin 16) (s : Fin 128) :
    slab a b q (ix2 r s) = if h : (q : ℕ) < 8 then a (ix3 ⟨q, h⟩ r s) else b (ix3 ⟨(q : ℕ) - 8, by omega⟩ r s) := by
  match q with
  | ⟨0, _⟩ => show k0_pay3 (View.ld a r0_0) (ix2 r s) = a (ix3 0 r s); pointwise [k0_pay3]
  | ⟨1, _⟩ => show k0_pay4 (View.ld a r0_1) (ix2 r s) = a (ix3 1 r s); pointwise [k0_pay4]
  | ⟨2, _⟩ => show k0_pay5 (View.ld a r0_2) (ix2 r s) = a (ix3 2 r s); pointwise [k0_pay5]
  | ⟨3, _⟩ => show k0_pay6 (View.ld a r0_3) (ix2 r s) = a (ix3 3 r s); pointwise [k0_pay6]
  | ⟨4, _⟩ => show k0_pay7 (View.ld a r0_4) (ix2 r s) = a (ix3 4 r s); pointwise [k0_pay7]
  | ⟨5, _⟩ => show k0_pay8 (View.ld a r0_5) (ix2 r s) = a (ix3 5 r s); pointwise [k0_pay8]
  | ⟨6, _⟩ => show k0_pay9 (View.ld a r0_6) (ix2 r s) = a (ix3 6 r s); pointwise [k0_pay9]
  | ⟨7, _⟩ => show k0_pay10 (View.ld a r0_7) (ix2 r s) = a (ix3 7 r s); pointwise [k0_pay10]
  | ⟨8, _⟩ => show k0_pay11 (View.ld b r0_0) (ix2 r s) = b (ix3 0 r s); pointwise [k0_pay11]
  | ⟨9, _⟩ => show k0_pay12 (View.ld b r0_1) (ix2 r s) = b (ix3 1 r s); pointwise [k0_pay12]
  | ⟨10, _⟩ => show k0_pay13 (View.ld b r0_2) (ix2 r s) = b (ix3 2 r s); pointwise [k0_pay13]
  | ⟨11, _⟩ => show shapeCast S512x128 (View.ld b r0_3) shapeCasts_S1x512x128_S512x128 (ix2 r s) = b (ix3 3 r s); pointwise
  | ⟨12, _⟩ => show shapeCast S512x128 (View.ld b r0_4) shapeCasts_S1x512x128_S512x128 (ix2 r s) = b (ix3 4 r s); pointwise
  | ⟨13, _⟩ => show shapeCast S512x128 (View.ld b r0_5) shapeCasts_S1x512x128_S512x128 (ix2 r s) = b (ix3 5 r s); pointwise
  | ⟨14, _⟩ => show shapeCast S512x128 (View.ld b r0_6) shapeCasts_S1x512x128_S512x128 (ix2 r s) = b (ix3 6 r s); pointwise
  | ⟨15, _⟩ => show shapeCast S512x128 (View.ld b r0_7) shapeCasts_S1x512x128_S512x128 (ix2 r s) = b (ix3 7 r s); pointwise
  | ⟨n + 16, hn⟩ => omega

/-- Column `k` of the mixed row: head `k / 128` of the first mixer for `k < 1024`, of the second from there on. -/
theorem mixed_at (a b : Vec Ideal S8x512x128 .bf16) (r : Fin 512) (k : Fin 2048) :
    mixed a b (ix2 r k) = if h : (k : ℕ) < 1024 then a (ix3 ⟨(k : ℕ) / 128, by omega⟩ r ⟨(k : ℕ) % 128, by omega⟩)
      else b (ix3 ⟨((k : ℕ) - 1024) / 128, by omega⟩ r ⟨((k : ℕ) - 1024) % 128, by omega⟩) := by
  have hk : k = ⟨((⟨(k : ℕ) / 128, by omega⟩ : Fin 16) : ℕ) * 128 + ((⟨(k : ℕ) % 128, by omega⟩ : Fin 128) : ℕ), by simp only; omega⟩ := by
    ext; simp only; omega
  refine (congrArg (fun k' => mixed a b (ix2 r k')) hk).trans ((mixed_slab a b r _ _).trans ((slab_at a b r _ _).trans ?_))
  by_cases h : (k : ℕ) < 1024
  · rw [dif_pos (show (k : ℕ) / 128 < 8 by omega), dif_pos h]
  · rw [dif_neg (show ¬ (k : ℕ) / 128 < 8 by omega), dif_neg h]
    exact congrArg b ((ix3_inj ..).2 ⟨by ext; simp only; omega, rfl, by ext; simp only; omega⟩)

/-- The block's residual rows. -/
def resid (a b : Vec Ideal S8x512x128 .bf16) (x : Vec Ideal S512x2048 .f32) (w : Vec Ideal S2048x2048 .bf16) (r : Fin 512) (o : Fin 2048) : EReal :=
  (show EReal from x (ix2 r o)) + ∑ k : Fin 2048, (show EReal from mixed a b (ix2 r k)) * (show EReal from w (ix2 k o))

/-- What the body stores at row `r`, column `o`: the residual row over its root mean square, times the weight. -/
theorem pay_at (a b : Vec Ideal S8x512x128 .bf16) (x : Vec Ideal S512x2048 .f32) (w : Vec Ideal S2048x2048 .bf16) (g : Vec Ideal S1x2048 .f32) (r : Fin 512) (o : Fin 2048) :
    k0_pay2 (mixed a b) x w g (ix2 r o) = resid a b x w r o
      * Ideal.rsqrt (Ideal.div (∑ c : Fin 2048, resid a b x w r c * resid a b x w r c)
          (Ideal.ofBits FTy.f32 0x45000000#32) + Ideal.ofBits FTy.f32 0x358637BD#32)
      * g (ix2 0 o) := by
  pointwise [k0_pay2, resid]

end Cert.KernelOutIdeal.Meaning

end
-- ==== Proof.OutValue.lean ====
/- The output projection: after the kernel's run its result array is the reference's result, and with that the value claim. -/
module

public import proofs.«01_k».proof.Proof.OutRef
public import proofs.«01_k».proof.Proof.OutBlock
public import Idealize.ShloMosaic.Lib.Claim
public import proofs.«01_k».proof.Defs

@[expose] public section

set_option maxRecDepth 16384

noncomputable section

namespace Cert.KernelOutIdeal.Meaning

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's arguments. -/
def target (c : Dev nD) : FVec Ideal S16384x2048 .f32 :=
  ReferenceOutIdeal.Meaning.normed (ReferenceOutIdeal.Meaning.resid (m ((c : Thread nD τ).loc main_arg0)) (m ((c : Thread nD τ).loc main_arg1))
    (m ((c : Thread nD τ).loc main_arg2)) (m ((c : Thread nD τ).loc main_arg3))) (m ((c : Thread nD τ).loc main_arg4))

/-- Where each window's block sits at grid point `t`. -/
theorem idx : ∀ t : Fin cfg0.N, win0_0.index t = ![0, t.val, 0] ∧ win0_1.index t = ![0, t.val, 0] ∧ win0_2.index t = ![t.val, 0]
    ∧ win0_3.index t = ![0, 0] ∧ win0_4.index t = ![0, 0] ∧ win0_5.index t = ![t.val, 0] :=
  (by decide +kernel : ∀ t : Fin grid0.N, _)

/-- Row `512 t + r` of the 16384 rows: batch element and position. -/
abbrev bOf (t : Fin cfg0.N) (r : Fin 512) : Fin 4 := ⟨(t.val * 512 + r) / 4096, by have := t.isLt; have h : cfg0.N = 32 := rfl; omega⟩
abbrev sOf (t : Fin cfg0.N) (r : Fin 512) : Fin 4096 := ⟨(t.val * 512 + r) % 4096, by omega⟩

/-- The first mixer's block at point `t`. -/
theorem blk0 (c : Dev nD) (t : Fin cfg0.N) (h : Fin 8) (r : Fin 512) (d : Fin 128) :
    iblk m c 0 t (ix3 h r d) = m ((c : Thread nD τ).loc main_arg0) (ix4 h (bOf t r) (sOf t r) d) := by
  blk_simp [iblk]
  entry_read
  pointwise
  blk_ext [idx t]

/-- The second mixer's block at point `t`. -/
theorem blk1 (c : Dev nD) (t : Fin cfg0.N) (h : Fin 8) (r : Fin 512) (d : Fin 128) :
    iblk m c 1 t (ix3 h r d) = m ((c : Thread nD τ).loc main_arg1) (ix4 h (bOf t r) (sOf t r) d) := by
  blk_simp [iblk]
  entry_read
  pointwise
  blk_ext [idx t]

/-- The input rows' block at point `t`. -/
theorem blk2 (c : Dev nD) (t : Fin cfg0.N) (r : Fin 512) (o : Fin 2048) :
    iblk m c 2 t (ix2 r o) = m ((c : Thread nD τ).loc main_arg2) (ix3 (bOf t r) (sOf t r) o) := by
  blk_simp [iblk]
  entry_read
  pointwise
  blk_ext [idx t]

/-- The weight is staged whole. -/
theorem blk3 (c : Dev nD) (t : Fin cfg0.N) (k o : Fin 2048) :
    iblk m c 3 t (ix2 k o) = m ((c : Thread nD τ).loc main_arg3) (ix3 0 k o) := by
  blk_simp [iblk]
  entry_read
  pointwise
  blk_ext [idx t]

/-- The norm's weight is staged whole. -/
theorem blk4 (c : Dev nD) (t : Fin cfg0.N) (o : Fin 2048) :
    iblk m c 4 t (ix2 0 o) = m ((c : Thread nD τ).loc main_arg4) (ix1 o) := by
  blk_simp [iblk]
  entry_read
  pointwise
  blk_ext [idx t]

/-- The residual rows of point `t`'s block are the reference's at the rows the block covers. -/
theorem resid_eq (c : Dev nD) (t : Fin cfg0.N) (r : Fin 512) (o : Fin 2048) :
    resid (iblk m c 0 t) (iblk m c 1 t) (iblk m c 2 t) (iblk m c 3 t) r o
      = ReferenceOutIdeal.Meaning.resid (m ((c : Thread nD τ).loc main_arg0)) (m ((c : Thread nD τ).loc main_arg1))
          (m ((c : Thread nD τ).loc main_arg2)) (m ((c : Thread nD τ).loc main_arg3)) (ix3 (bOf t r) (sOf t r) o) := by
  rw [ReferenceOutIdeal.Meaning.resid_at]
  unfold resid
  refine Ideal.add_congr (blk2 m c t r o) (Finset.sum_congr rfl fun k _ => Ideal.mul_congr ?_ (blk3 m c t k o))
  refine (mixed_at _ _ r k).trans (Eq.trans ?_ (ReferenceOutIdeal.Meaning.mixed_at _ _ _ _ k).symm)
  by_cases h : (k : ℕ) < 1024
  · rw [dif_pos h, dif_pos h]; exact blk0 m c t _ r _
  · rw [dif_neg h, dif_neg h]; exact blk1 m c t _ r _

/-- What point `t` leaves at row `r`, column `o` of its block is the reference's result at row `512 t + r`. -/
theorem point (c : Dev nD) (t : Fin cfg0.N) (r : Fin 512) (o : Fin 2048) :
    k0_pay2 (mixed (iblk m c 0 t) (iblk m c 1 t)) (iblk m c 2 t) (iblk m c 3 t) (iblk m c 4 t) (ix2 r o)
      = target m c (ix2 ⟨t.val * 512 + r, by have := t.isLt; have h : cfg0.N = 32 := rfl; omega⟩ o) := by
  refine (pay_at _ _ _ _ _ r o).trans (Eq.trans ?_ (ReferenceOutIdeal.Meaning.normed_at _ _ _ o).symm)
  simp only [resid_eq m c t r]
  exact Ideal.mul_congr rfl (blk4 m c t o)

/-- After the run the kernel's result array is the reference's result. -/
theorem final (c : Dev nD) : (dats m 0 c).arrAt 5 cfg0.N = target m c := by
  refine (dats m 0 c).arrAt_eq_of_covers 5 _ (by decide +kernel) fun t _ y => ?_
  blk_simp
  rw [after0_5]; frame_out
  idx_vars y
  refine (point m c t y0 y1).trans ?_
  blk_ext [idx t]

/-- The kernel and the reference leave the same result from the same arguments. -/
theorem algebraic : Cert.algebraic_KernelOutIdeal_ReferenceOutIdeal := by
  intro m g m' g' _ hagree
  refine ⟨fun c => target m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (ReferenceOutIdeal.Meaning.run m' g')
    obtain ⟨h0, h1, h2, h3, h4⟩ := hagree c
    rw [h0, h1, h2, h3, h4]
    rfl

end Cert.KernelOutIdeal.Meaning

end
-- ==== Proof.lean ====
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelMeta
public import proofs.«01_k».proof.Proof.Gen.KernelMetaIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceInIdeal.Run
public import proofs.«01_k».proof.Proof.Gen.ReferenceOutIdeal.Run
public import proofs.«01_k».proof.Proof.InValue
public import proofs.«01_k».proof.Proof.MetaSame
public import proofs.«01_k».proof.Proof.OutValue
public import Idealize.ShloMosaic.Adequacy
public import Idealize.ShloMosaic.Init

@[expose] public section

set_option maxRecDepth 16384

noncomputable section

namespace Cert.Proof

open Idealize.ShloMosaic Idealize.SL.Sem Cert.KernelIn

/-- The input projection's body table is the same in both readings, -/
theorem input_bodies : Cert.KernelIn.defs₀ (F := Bits) = Cert.KernelInIdeal.defs₀ (F := Bits) := by
  unfold Cert.KernelIn.defs₀ Cert.KernelInIdeal.defs₀
  refine congrArg Defs.onTc (funext fun l => funext fun a => ?_)
  match l, a with
  | 0, (t, s) => rfl

/-- and so is the table of all it calls. -/
theorem input_defs : Cert.KernelIn.defs (F := Bits) = Cert.KernelInIdeal.defs (F := Bits) := by
  unfold Cert.KernelIn.defs Cert.KernelInIdeal.defs
  exact congrArg (Pipeline.defs Cert.KernelInIdeal.pcfgs) input_bodies

/-- So the run over any elements, taken at the bits, is the frame of the input projection as it is read from the bits. -/
theorem input_frame : Cert.quiescent_KernelIn := fun m ρ _ => by
  rw [input_defs]
  exact Cert.KernelInIdeal.Meaning.frame (F := Bits) m ρ

/-- Every claim: the two projections' frames and values, and the mixers' frames over the meta tokens. -/
theorem claim : Cert.Claim := ⟨Cert.KernelIn.Gen.facts, Cert.KernelInIdeal.Gen.facts, Cert.ReferenceInIdeal.Gen.facts, Cert.KernelMeta.Gen.facts, Cert.KernelMetaIdeal.Gen.facts,
  Cert.KernelOut.Gen.facts, Cert.KernelOutIdeal.Gen.facts, Cert.ReferenceOutIdeal.Gen.facts,
  -- The frames: each kernel's launch; each reference runs host operations only and has no semaphores. The input projection
  -- and the mixers' call have one text in both readings, and one run, at any elements, is both frames.
  input_frame,
  fun m ρ _ => Cert.KernelInIdeal.Meaning.frame m ρ,
  fun m ρ _ => (θ_run _ _ _).mono (fun r h => ⟨fun c => (h c).2.2, sem_eq_zero_of_no_sems (by decide) r.2⟩) (Cert.ReferenceInIdeal.Value.run m ρ),
  meta_frame,
  fun m ρ _ => Cert.KernelMetaIdeal.Meaning.frame m ρ,
  fun m ρ _ => Cert.KernelOut.Gen.frame m ρ,
  fun m ρ _ => Cert.KernelOutIdeal.Gen.frame m ρ,
  fun m ρ _ => (θ_run _ _ _).mono (fun r h => ⟨fun c => (h c).2, sem_eq_zero_of_no_sems (by decide) r.2⟩) (Cert.ReferenceOutIdeal.Value.run m ρ),
  -- The value claims.
  trivial, Cert.KernelInIdeal.Meaning.algebraic, trivial, trivial, Cert.KernelOutIdeal.Meaning.algebraic⟩

end Cert.Proof

end
